-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S16x2048 : Shape := ⟨2, ![16, 2048]⟩
abbrev S16384x2048 : Shape := ⟨2, ![16384, 2048]⟩
abbrev S16x16384 : Shape := ⟨2, ![16, 16384]⟩
abbrev S2x16384 : Shape := ⟨2, ![2, 16384]⟩
abbrev S16384x2 : Shape := ⟨2, ![16384, 2]⟩
abbrev S16384x16 : Shape := ⟨2, ![16384, 16]⟩
abbrev S2x2048 : Shape := ⟨2, ![2, 2048]⟩
abbrev S2x2048x2048 : Shape := ⟨3, ![2, 2048, 2048]⟩
abbrev S2x8 : Shape := ⟨2, ![2, 8]⟩
abbrev S1x1 : Shape := ⟨2, ![1, 1]⟩
abbrev S_ : Shape := ⟨0, ![]⟩
abbrev S1x256x2048 : Shape := ⟨3, ![1, 256, 2048]⟩
abbrev S256x2048 : Shape := ⟨2, ![256, 2048]⟩
abbrev S1x2048x2048 : Shape := ⟨3, ![1, 2048, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16384x2048, .f32⟩
  | .hbm, ⟨3, _⟩ => ⟨S16x16384, .f32⟩
  | .hbm, ⟨4, _⟩ => ⟨S2x16384, .i32⟩
  | .hbm, ⟨5, _⟩ => ⟨S2x16384, .f32⟩
  | .hbm, ⟨6, _⟩ => ⟨S16384x2, .i32⟩
  | .hbm, ⟨7, _⟩ => ⟨S16384x2, .f32⟩
  | .hbm, ⟨8, _⟩ => ⟨S16384x16, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | .local _ .vmem, ⟨3, _⟩ => ⟨S2x2048, .i32⟩
  | .local _ .vmem, ⟨4, _⟩ => ⟨S2x2048, .i32⟩
  | .local _ .vmem, ⟨5, _⟩ => ⟨S2x2048, .f32⟩
  | .local _ .vmem, ⟨6, _⟩ => ⟨S2x2048, .f32⟩
  | .local _ .vmem, ⟨7, _⟩ => ⟨S2x2048x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v1_2 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c1_i32 : BitVec 32 := 1#32
  let v4 : BitVec 32 := Scalar.addi arg0 c1_i32
  let c8_i32 : BitVec 32 := 8#32
  let v5 : BitVec 1 := Scalar.cmpi .slt v4 c8_i32
  let v6 : BitVec 32 := Scalar.extui v5
  let c0_i32_1 : BitVec 32 := 0#32
  let v7 : BitVec 1 := Scalar.cmpi .ne v6 c0_i32_1
  v7

def k0_off1 (i : grid0.Coords) : Fin 2 → Nat :=
  let c1_i32_56 : BitVec 32 := 1#32
  let arg0 : BitVec 32 := BitVec.ofNat 32 (i 0).val
  let c2_i32 : BitVec 32 := 2#32
  let v0 : BitVec 32 := Scalar.remsi arg0 c2_i32
  let v115 : BitVec 32 := Scalar.subi c1_i32_56 v0
  let c0_i32_73 : BitVec 32 := 0#32
  ![v115.toNat, 0]
def k0_off2 (i : grid0.Coords) : Fin 3 → Nat :=
  let c1_i32_56 : BitVec 32 := 1#32
  let arg0 : BitVec 32 := BitVec.ofNat 32 (i 0).val
  let c2_i32 : BitVec 32 := 2#32
  let v0 : BitVec 32 := Scalar.remsi arg0 c2_i32
  let v115 : BitVec 32 := Scalar.subi c1_i32_56 v0
  let c0_i32_74 : BitVec 32 := 0#32
  let c0_i32_75 : BitVec 32 := 0#32
  ![v115.toNat, 0, 0]
def k0_off3 (i : grid0.Coords) (c0_i32_58 : BitVec 32) : Fin 2 → Nat :=
  let arg0 : BitVec 32 := BitVec.ofNat 32 (i 0).val
  let c1_i32_55 : BitVec 32 := 1#32
  let v114 : BitVec 32 := Scalar.addi arg0 c1_i32_55
  let c2048_i32_57 : BitVec 32 := 2048#32
  let v116 : BitVec 32 := Scalar.muli v114 c2048_i32_57
  let v117 : BitVec 32 := Scalar.addi v116 c0_i32_58
  let c0_i32_76 : BitVec 32 := 0#32
  ![v117.toNat, 0]
def k0_off4 (i : grid0.Coords) : Fin 2 → Nat :=
  let c1_i32_56 : BitVec 32 := 1#32
  let arg0 : BitVec 32 := BitVec.ofNat 32 (i 0).val
  let c2_i32 : BitVec 32 := 2#32
  let v0 : BitVec 32 := Scalar.remsi arg0 c2_i32
  let v115 : BitVec 32 := Scalar.subi c1_i32_56 v0
  let c1_i32_77 : BitVec 32 := 1#32
  ![v115.toNat, 1]
def k0_off5 (i : grid0.Coords) : Fin 3 → Nat :=
  let c1_i32_56 : BitVec 32 := 1#32
  let arg0 : BitVec 32 := BitVec.ofNat 32 (i 0).val
  let c2_i32 : BitVec 32 := 2#32
  let v0 : BitVec 32 := Scalar.remsi arg0 c2_i32
  let v115 : BitVec 32 := Scalar.subi c1_i32_56 v0
  let c256_i32_78 : BitVec 32 := 256#32
  let c0_i32_79 : BitVec 32 := 0#32
  ![v115.toNat, 256, 0]
def k0_off6 (i : grid0.Coords) : Fin 2 → Nat :=
  let c1_i32_56 : BitVec 32 := 1#32
  let arg0 : BitVec 32 := BitVec.ofNat 32 (i 0).val
  let c2_i32 : BitVec 32 := 2#32
  let v0 : BitVec 32 := Scalar.remsi arg0 c2_i32
  let v115 : BitVec 32 := Scalar.subi c1_i32_56 v0
  let c2_i32_81 : BitVec 32 := 2#32
  ![v115.toNat, 2]
def k0_off7 (i : grid0.Coords) : Fin 3 → Nat :=
  let c1_i32_56 : BitVec 32 := 1#32
  let arg0 : BitVec 32 := BitVec.ofNat 32 (i 0).val
  let c2_i32 : BitVec 32 := 2#32
  let v0 : BitVec 32 := Scalar.remsi arg0 c2_i32
  let v115 : BitVec 32 := Scalar.subi c1_i32_56 v0
  let c512_i32_82 : BitVec 32 := 512#32
  let c0_i32_83 : BitVec 32 := 0#32
  ![v115.toNat, 512, 0]
def k0_off8 (i : grid0.Coords) : Fin 2 → Nat :=
  let c1_i32_56 : BitVec 32 := 1#32
  let arg0 : BitVec 32 := BitVec.ofNat 32 (i 0).val
  let c2_i32 : BitVec 32 := 2#32
  let v0 : BitVec 32 := Scalar.remsi arg0 c2_i32
  let v115 : BitVec 32 := Scalar.subi c1_i32_56 v0
  let c3_i32_85 : BitVec 32 := 3#32
  ![v115.toNat, 3]
def k0_off9 (i : grid0.Coords) : Fin 3 → Nat :=
  let c1_i32_56 : BitVec 32 := 1#32
  let arg0 : BitVec 32 := BitVec.ofNat 32 (i 0).val
  let c2_i32 : BitVec 32 := 2#32
  let v0 : BitVec 32 := Scalar.remsi arg0 c2_i32
  let v115 : BitVec 32 := Scalar.subi c1_i32_56 v0
  let c768_i32_86 : BitVec 32 := 768#32
  let c0_i32_87 : BitVec 32 := 0#32
  ![v115.toNat, 768, 0]
def k0_off10 (i : grid0.Coords) : Fin 2 → Nat :=
  let c1_i32_56 : BitVec 32 := 1#32
  let arg0 : BitVec 32 := BitVec.ofNat 32 (i 0).val
  let c2_i32 : BitVec 32 := 2#32
  let v0 : BitVec 32 := Scalar.remsi arg0 c2_i32
  let v115 : BitVec 32 := Scalar.subi c1_i32_56 v0
  let c4_i32_89 : BitVec 32 := 4#32
  ![v115.toNat, 4]
def k0_off11 (i : grid0.Coords) : Fin 3 → Nat :=
  let c1_i32_56 : BitVec 32 := 1#32
  let arg0 : BitVec 32 := BitVec.ofNat 32 (i 0).val
  let c2_i32 : BitVec 32 := 2#32
  let v0 : BitVec 32 := Scalar.remsi arg0 c2_i32
  let v115 : BitVec 32 := Scalar.subi c1_i32_56 v0
  let c1024_i32_90 : BitVec 32 := 1024#32
  let c0_i32_91 : BitVec 32 := 0#32
  ![v115.toNat, 1024, 0]
def k0_off12 (i : grid0.Coords) : Fin 2 → Nat :=
  let c1_i32_56 : BitVec 32 := 1#32
  let arg0 : BitVec 32 := BitVec.ofNat 32 (i 0).val
  let c2_i32 : BitVec 32 := 2#32
  let v0 : BitVec 32 := Scalar.remsi arg0 c2_i32
  let v115 : BitVec 32 := Scalar.subi c1_i32_56 v0
  let c5_i32_93 : BitVec 32 := 5#32
  ![v115.toNat, 5]
def k0_off13 (i : grid0.Coords) : Fin 3 → Nat :=
  let c1_i32_56 : BitVec 32 := 1#32
  let arg0 : BitVec 32 := BitVec.ofNat 32 (i 0).val
  let c2_i32 : BitVec 32 := 2#32
  let v0 : BitVec 32 := Scalar.remsi arg0 c2_i32
  let v115 : BitVec 32 := Scalar.subi c1_i32_56 v0
  let c1280_i32_94 : BitVec 32 := 1280#32
  let c0_i32_95 : BitVec 32 := 0#32
  ![v115.toNat, 1280, 0]
def k0_off14 (i : grid0.Coords) : Fin 2 → Nat :=
  let c1_i32_56 : BitVec 32 := 1#32
  let arg0 : BitVec 32 := BitVec.ofNat 32 (i 0).val
  let c2_i32 : BitVec 32 := 2#32
  let v0 : BitVec 32 := Scalar.remsi arg0 c2_i32
  let v115 : BitVec 32 := Scalar.subi c1_i32_56 v0
  let c6_i32_97 : BitVec 32 := 6#32
  ![v115.toNat, 6]
def k0_off15 (i : grid0.Coords) : Fin 3 → Nat :=
  let c1_i32_56 : BitVec 32 := 1#32
  let arg0 : BitVec 32 := BitVec.ofNat 32 (i 0).val
  let c2_i32 : BitVec 32 := 2#32
  let v0 : BitVec 32 := Scalar.remsi arg0 c2_i32
  let v115 : BitVec 32 := Scalar.subi c1_i32_56 v0
  let c1536_i32_98 : BitVec 32 := 1536#32
  let c0_i32_99 : BitVec 32 := 0#32
  ![v115.toNat, 1536, 0]
def k0_off16 (i : grid0.Coords) : Fin 2 → Nat :=
  let c1_i32_56 : BitVec 32 := 1#32
  let arg0 : BitVec 32 := BitVec.ofNat 32 (i 0).val
  let c2_i32 : BitVec 32 := 2#32
  let v0 : BitVec 32 := Scalar.remsi arg0 c2_i32
  let v115 : BitVec 32 := Scalar.subi c1_i32_56 v0
  let c7_i32_101 : BitVec 32 := 7#32
  ![v115.toNat, 7]
def k0_off17 (i : grid0.Coords) : Fin 3 → Nat :=
  let c1_i32_56 : BitVec 32 := 1#32
  let arg0 : BitVec 32 := BitVec.ofNat 32 (i 0).val
  let c2_i32 : BitVec 32 := 2#32
  let v0 : BitVec 32 := Scalar.remsi arg0 c2_i32
  let v115 : BitVec 32 := Scalar.subi c1_i32_56 v0
  let c1792_i32_102 : BitVec 32 := 1792#32
  let c0_i32_103 : BitVec 32 := 0#32
  ![v115.toNat, 1792, 0]
def k0_off18 (i : grid0.Coords) : Fin 2 → Nat :=
  let arg0 : BitVec 32 := BitVec.ofNat 32 (i 0).val
  let c2_i32 : BitVec 32 := 2#32
  let v0 : BitVec 32 := Scalar.remsi arg0 c2_i32
  let c0_i32_10 : BitVec 32 := 0#32
  ![v0.toNat, 0]
def k0_off19 (i : grid0.Coords) : Fin 3 → Nat :=
  let arg0 : BitVec 32 := BitVec.ofNat 32 (i 0).val
  let c2_i32 : BitVec 32 := 2#32
  let v0 : BitVec 32 := Scalar.remsi arg0 c2_i32
  let c0_i32_11 : BitVec 32 := 0#32
  let c0_i32_12 : BitVec 32 := 0#32
  ![v0.toNat, 0, 0]
def k0_off20 (i : grid0.Coords) (c0_i32_2 : BitVec 32) : Fin 2 → Nat :=
  let arg0 : BitVec 32 := BitVec.ofNat 32 (i 0).val
  let c2048_i32 : BitVec 32 := 2048#32
  let v8 : BitVec 32 := Scalar.muli arg0 c2048_i32
  let v9 : BitVec 32 := Scalar.addi v8 c0_i32_2
  let c0_i32_13 : BitVec 32 := 0#32
  ![v9.toNat, 0]
def k0_off21 (i : grid0.Coords) : Fin 2 → Nat :=
  let arg0 : BitVec 32 := BitVec.ofNat 32 (i 0).val
  let c2_i32 : BitVec 32 := 2#32
  let v0 : BitVec 32 := Scalar.remsi arg0 c2_i32
  let c1_i32_14 : BitVec 32 := 1#32
  ![v0.toNat, 1]
def k0_off22 (i : grid0.Coords) : Fin 3 → Nat :=
  let arg0 : BitVec 32 := BitVec.ofNat 32 (i 0).val
  let c2_i32 : BitVec 32 := 2#32
  let v0 : BitVec 32 := Scalar.remsi arg0 c2_i32
  let c256_i32_15 : BitVec 32 := 256#32
  let c0_i32_16 : BitVec 32 := 0#32
  ![v0.toNat, 256, 0]
def k0_off23 (i : grid0.Coords) : Fin 2 → Nat :=
  let arg0 : BitVec 32 := BitVec.ofNat 32 (i 0).val
  let c2_i32 : BitVec 32 := 2#32
  let v0 : BitVec 32 := Scalar.remsi arg0 c2_i32
  let c2_i32_18 : BitVec 32 := 2#32
  ![v0.toNat, 2]
def k0_off24 (i : grid0.Coords) : Fin 3 → Nat :=
  let arg0 : BitVec 32 := BitVec.ofNat 32 (i 0).val
  let c2_i32 : BitVec 32 := 2#32
  let v0 : BitVec 32 := Scalar.remsi arg0 c2_i32
  let c512_i32_19 : BitVec 32 := 512#32
  let c0_i32_20 : BitVec 32 := 0#32
  ![v0.toNat, 512, 0]
def k0_off25 (i : grid0.Coords) : Fin 2 → Nat :=
  let arg0 : BitVec 32 := BitVec.ofNat 32 (i 0).val
  let c2_i32 : BitVec 32 := 2#32
  let v0 : BitVec 32 := Scalar.remsi arg0 c2_i32
  let c3_i32 : BitVec 32 := 3#32
  ![v0.toNat, 3]
def k0_off26 (i : grid0.Coords) : Fin 3 → Nat :=
  let arg0 : BitVec 32 := BitVec.ofNat 32 (i 0).val
  let c2_i32 : BitVec 32 := 2#32
  let v0 : BitVec 32 := Scalar.remsi arg0 c2_i32
  let c768_i32_22 : BitVec 32 := 768#32
  let c0_i32_23 : BitVec 32 := 0#32
  ![v0.toNat, 768, 0]
def k0_off27 (i : grid0.Coords) : Fin 2 → Nat :=
  let arg0 : BitVec 32 := BitVec.ofNat 32 (i 0).val
  let c2_i32 : BitVec 32 := 2#32
  let v0 : BitVec 32 := Scalar.remsi arg0 c2_i32
  let c4_i32 : BitVec 32 := 4#32
  ![v0.toNat, 4]
def k0_off28 (i : grid0.Coords) : Fin 3 → Nat :=
  let arg0 : BitVec 32 := BitVec.ofNat 32 (i 0).val
  let c2_i32 : BitVec 32 := 2#32
  let v0 : BitVec 32 := Scalar.remsi arg0 c2_i32
  let c1024_i32_25 : BitVec 32 := 1024#32
  let c0_i32_26 : BitVec 32 := 0#32
  ![v0.toNat, 1024, 0]
def k0_off29 (i : grid0.Coords) : Fin 2 → Nat :=
  let arg0 : BitVec 32 := BitVec.ofNat 32 (i 0).val
  let c2_i32 : BitVec 32 := 2#32
  let v0 : BitVec 32 := Scalar.remsi arg0 c2_i32
  let c5_i32 : BitVec 32 := 5#32
  ![v0.toNat, 5]
def k0_off30 (i : grid0.Coords) : Fin 3 → Nat :=
  let arg0 : BitVec 32 := BitVec.ofNat 32 (i 0).val
  let c2_i32 : BitVec 32 := 2#32
  let v0 : BitVec 32 := Scalar.remsi arg0 c2_i32
  let c1280_i32_28 : BitVec 32 := 1280#32
  let c0_i32_29 : BitVec 32 := 0#32
  ![v0.toNat, 1280, 0]
def k0_off31 (i : grid0.Coords) : Fin 2 → Nat :=
  let arg0 : BitVec 32 := BitVec.ofNat 32 (i 0).val
  let c2_i32 : BitVec 32 := 2#32
  let v0 : BitVec 32 := Scalar.remsi arg0 c2_i32
  let c6_i32 : BitVec 32 := 6#32
  ![v0.toNat, 6]
def k0_off32 (i : grid0.Coords) : Fin 3 → Nat :=
  let arg0 : BitVec 32 := BitVec.ofNat 32 (i 0).val
  let c2_i32 : BitVec 32 := 2#32
  let v0 : BitVec 32 := Scalar.remsi arg0 c2_i32
  let c1536_i32_31 : BitVec 32 := 1536#32
  let c0_i32_32 : BitVec 32 := 0#32
  ![v0.toNat, 1536, 0]
def k0_off33 (i : grid0.Coords) : Fin 2 → Nat :=
  let arg0 : BitVec 32 := BitVec.ofNat 32 (i 0).val
  let c2_i32 : BitVec 32 := 2#32
  let v0 : BitVec 32 := Scalar.remsi arg0 c2_i32
  let c7_i32 : BitVec 32 := 7#32
  ![v0.toNat, 7]
def k0_off34 (i : grid0.Coords) : Fin 3 → Nat :=
  let arg0 : BitVec 32 := BitVec.ofNat 32 (i 0).val
  let c2_i32 : BitVec 32 := 2#32
  let v0 : BitVec 32 := Scalar.remsi arg0 c2_i32
  let c1792_i32_34 : BitVec 32 := 1792#32
  let c0_i32_35 : BitVec 32 := 0#32
  ![v0.toNat, 1792, 0]
def k0_off35 (i : grid0.Coords) : Fin 3 → Nat :=
  let arg0 : BitVec 32 := BitVec.ofNat 32 (i 0).val
  let c2_i32 : BitVec 32 := 2#32
  let v0 : BitVec 32 := Scalar.remsi arg0 c2_i32
  let v64 : Index := Scalar.indexCast v0
  let c0 : Index := 0#32
  let c0_37 : Index := 0#32
  ![v64.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x4096x2048 : Shape := ⟨3, ![4, 4096, 2048]⟩
abbrev S16x2048 : Shape := ⟨2, ![16, 2048]⟩
abbrev S16384x2048 : Shape := ⟨2, ![16384, 2048]⟩
abbrev S2048x16 : Shape := ⟨2, ![2048, 16]⟩
abbrev S16384x16 : Shape := ⟨2, ![16384, 16]⟩
abbrev S_ : Shape := ⟨0, ![]⟩
abbrev S16384 : Shape := ⟨1, ![16384]⟩
abbrev S16384x1 : Shape := ⟨2, ![16384, 1]⟩
abbrev S16384x2 : Shape := ⟨2, ![16384, 2]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16x2048, .f32⟩
  | .hbm, ⟨2, _⟩ => ⟨S16384x2048, .f32⟩
  | .hbm, ⟨3, _⟩ => ⟨S2048x16, .f32⟩
  | .hbm, ⟨4, _⟩ => ⟨S16384x16, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x16, .f32⟩
  | .hbm, ⟨12, _⟩ => ⟨S16384x16, .f32⟩
  | .hbm, ⟨13, _⟩ => ⟨S16384x16, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x16, .f32⟩
  | .hbm, ⟨18, _⟩ => ⟨S16384x16, .f32⟩
  | .hbm, ⟨19, _⟩ => ⟨S16384x2, .f32⟩
  | .hbm, ⟨20, _⟩ => ⟨S16384x2, .i32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x2, .f32⟩
  | .hbm, ⟨28, _⟩ => ⟨S16384x2, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.IdealRing.lean ====
/- The double buffer the kernel streams its activations through, as separation-logic assertions: the 2 × 8 parts of the
   VMEM buffer, the semaphore each part's copy completes on, the row blocks of the activations each part receives, and
   the state of all of them before every grid point. Also the equations saying that the memrefs the body computes at a
   grid point are these parts, semaphores and row blocks. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.ValueIdxCore
public import Idealize.ShloMosaic.Lib.ValueLayout

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The buffer's parts, the semaphores, the row blocks -/

/-- The VMEM double buffer, whole. -/
abbrev scM : Memref sig .tc .vmem S2x2048x2048 .f32 := Memref.whole cc0_scratch0
/-- The activations, 16384 rows of 2048, left in HBM. -/
abbrev hbM : Memref sig .tc .hbm S16384x2048 .f32 := Memref.whole main_call0_v0
/-- The contents type of a memref's buffer on core `c`. -/
abbrev BufAt (c : Dev nD) {sp : Space} {S : Shape} {e : EltTy} (M : Memref sig .tc sp S e) : Type :=
  Buf (Elt F) (M.view.loc (c : Thread nD τ))

theorem inb_part (s : Fin 2) (j : Fin 8) : ∀ a, (![s.val, 256 * j.val, 0] : Fin 3 → Nat) a + S1x256x2048.size a ≤ S2x2048x2048.size a := by
  have := s.isLt; have := j.isLt; intro a; fin_cases a <;> simp <;> omega
theorem inb_slot (s : Fin 2) : ∀ a, (![s.val, 0, 0] : Fin 3 → Nat) a + S1x2048x2048.size a ≤ S2x2048x2048.size a := by
  have := s.isLt; intro a; fin_cases a <;> simp <;> omega
theorem inb_src (b j : Fin 8) : ∀ a, (![2048 * b.val + 256 * j.val, 0] : Fin 2 → Nat) a + S256x2048.size a ≤ S16384x2048.size a := by
  have := b.isLt; have := j.isLt; intro a; fin_cases a <;> simp <;> omega
theorem inb_cell (s : Fin 2) (j : Fin 8) : ∀ a, (![s.val, j.val] : Fin 2 → Nat) a + S1x1.size a ≤ S2x8.size a := by
  have := s.isLt; have := j.isLt; intro a; fin_cases a <;> simp <;> omega

/-- Part `j` of slot `s`: rows `256 j … 256 j + 255` of that slot, as the body names a transfer's destination. -/
def partM (s : Fin 2) (j : Fin 8) : Memref sig .tc .vmem S256x2048 .f32 :=
  (scM.slice (Rect.unit (s := S2x2048x2048) ![s.val, 256 * j.val, 0] S1x256x2048.size (inb_part s j)) (fun _ => rfl)).squeeze S256x2048 squeezes_S1x256x2048_S256x2048
/-- Slot `s` whole. -/
def slotM (s : Fin 2) : Memref sig .tc .vmem S1x2048x2048 .f32 :=
  scM.slice (Rect.unit (s := S2x2048x2048) ![s.val, 0, 0] S1x2048x2048.size (inb_slot s)) (fun _ => rfl)
/-- Part `j` of block `b` of the activations: rows `2048 b + 256 j … + 255`. -/
def srcM (b j : Fin 8) : Memref sig .tc .hbm S256x2048 .f32 :=
  hbM.slice (Rect.unit (s := S16384x2048) ![2048 * b.val + 256 * j.val, 0] S256x2048.size (inb_src b j)) (fun _ => rfl)
/-- The semaphore on which part `j` of slot `s` completes. -/
def cellA (s : Fin 2) (j : Fin 8) : DmaSems sig S_ :=
  (cc0_scratch1.slice (Rect.unit (s := S2x8) ![s.val, j.val] S1x1.size (inb_cell s j))).squeeze S_ squeezes_S1x1_S_
abbrev cellR (s : Fin 2) (j : Fin 8) : SemLoc sig := SemLoc.dma (cellA s j).sem

/-- A part, a semaphore and a row block are determined by their offsets. -/
theorem partM_eq {off : Fin 3 → Nat} {s : Fin 2} {j : Fin 8} (h : off = ![s.val, 256 * j.val, 0])
    (hi : ∀ a, off a + S1x256x2048.size a ≤ S2x2048x2048.size a) :
    (scM.slice (Rect.unit (s := S2x2048x2048) off S1x256x2048.size hi) (fun _ => rfl)).squeeze S256x2048 squeezes_S1x256x2048_S256x2048 = partM s j := by
  subst h; rfl
theorem cellA_eq {off : Fin 2 → Nat} {s : Fin 2} {j : Fin 8} (h : off = ![s.val, j.val])
    (hi : ∀ a, off a + S1x1.size a ≤ S2x8.size a) :
    (cc0_scratch1.slice (Rect.unit (s := S2x8) off S1x1.size hi)).squeeze S_ squeezes_S1x1_S_ = cellA s j := by
  subst h; rfl
theorem srcM_eq {off : Fin 2 → Nat} {b j : Fin 8} (h : off = ![2048 * b.val + 256 * j.val, 0])
    (hi : ∀ a, off a + S256x2048.size a ≤ S16384x2048.size a) :
    hbM.slice (Rect.unit (s := S16384x2048) off S256x2048.size hi) (fun _ => rfl) = srcM b j := by
  subst h; rfl

/-! ## The assertions -/

section Families
variable (c : Dev nD) (W : BufAt (F := F) c hbM)

/-- Each part borrows the activations at a read share of its own, so that transfers in flight at once never share one. -/
def qs (s : Fin 2) (j : Fin 8) : PosShare TreeShare := Transfers.shareTokN fullShare (8 * s.val + j.val)

/-- Part `j` of slot `s` held at `f`. -/
abbrev partP (s : Fin 2) (j : Fin 8) (f : BufAt (F := F) c (partM s j)) : sProp 𝕄 :=
  (partM s j).view.loc (c : Thread nD τ) ↦[(partM s j).view.set]{fullShare} f
/-- Its semaphore at zero. -/
abbrev cellP (s : Fin 2) (j : Fin 8) : sProp 𝕄 := semVal ((c : Thread nD τ), cellR s j) 0
/-- Part `j` of block `b` of the activations, at the share lent to part `j` of slot `s`. -/
abbrev srcP (s : Fin 2) (j b : Fin 8) : sProp 𝕄 := (srcM b j).view.loc (c : Thread nD τ) ↦[(srcM b j).view.set]{qs s j} W
/-- The other rows at that share. -/
def restP (s : Fin 2) (j b : Fin 8) : sProp 𝕄 := ((c : Thread nD τ).loc main_call0_v0) ↦[Finset.univ \ (srcM b j).view.set]{qs s j} W
/-- All rows at that share. -/
def wholeP (s : Fin 2) (j : Fin 8) : sProp 𝕄 := ((c : Thread nD τ).loc main_call0_v0) ↦[Finset.univ]{qs s j} W
/-- A part's contents once block `b`'s rows landed in it over `f`. -/
abbrev landed (s : Fin 2) (j b : Fin 8) (f : BufAt (F := F) c (partM s j)) : BufAt (F := F) c (partM s j) :=
  (partM s j).view.writes (Elt F) f [⟨Rect.whole S256x2048, ReadAs.same.apply ((srcM b j).view.read (Elt F) W)⟩]
/-- The transfer of part `j` of block `b` into slot `s`, in flight: its semaphore will deliver the part landed and the rows lent. -/
abbrev flightP (s : Fin 2) (j b : Fin 8) (f : BufAt (F := F) c (partM s j)) : sProp 𝕄 :=
  Transfers.Flight countersEmb (c : Thread nD τ) (cellR s j) default ((partM s j).view.amount (cellR s j))
    iprop(partP c s j (landed c W s j b f) ∗ srcP c W s j b)

/-- Part `j` of slot `s` is free: its semaphore at zero, the part held at anything, its copy of the activations whole. -/
abbrev freeP (s : Fin 2) (j : Fin 8) : sProp 𝕄 := iprop(cellP c s j ∗ (∃ f, partP c s j f) ∗ wholeP c W s j)
/-- The same with the rows of block `b` set apart, ready to be lent. -/
abbrev readyP (b : Fin 8) (s : Fin 2) (j : Fin 8) : sProp 𝕄 :=
  iprop(cellP c s j ∗ (∃ f, partP c s j f) ∗ srcP c W s j b ∗ restP c W s j b)
/-- Part `j` of slot `s` is in flight with block `b`. -/
abbrev flyP (b : Fin 8) (s : Fin 2) (j : Fin 8) : sProp 𝕄 := iprop((∃ f, flightP c W s j b f) ∗ restP c W s j b)

/-- A slot free, ready for block `b`, and in flight with block `b`: its eight parts. -/
def slotFree (s : Fin 2) : sProp 𝕄 := bigSep Finset.univ (freeP c W s)
def slotReady (s : Fin 2) (b : Fin 8) : sProp 𝕄 := bigSep Finset.univ (readyP c W b s)
def slotFly (s : Fin 2) (b : Fin 8) : sProp 𝕄 := bigSep Finset.univ (flyP c W b s)

/-- The double buffer before grid point `k`: from the second point on, block `k` is in flight into slot `k mod 2`; the
    other slot is free. Before the first point and after the last both are free. -/
def ringAt (k : ℕ) : sProp 𝕄 :=
  iprop((if 1 ≤ k ∧ k < 8 then slotFly c W (Ring.sl 2 k) (Ring.bk 8 k) else slotFree c W (Ring.sl 2 k)) ∗ slotFree c W (Ring.sl 2 (k + 1)))

omit [FloatOps F] in
/-- Eight conjuncts, listed. -/
theorem bigSep8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [BI.bigSep_univ_eq_bigSepL [0, 1, 2, 3, 4, 5, 6, 7] (by decide) (by decide)]; rfl

omit [FloatOps F] in
/-- A copy of the activations is block `b`'s rows and the others. -/
theorem whole_split (s : Fin 2) (j b : Fin 8) : wholeP (F := F) c W s j ⊣⊢ iprop(srcP c W s j b ∗ restP c W s j b) := by
  unfold wholeP restP; exact pointsTo_split_subset (Finset.subset_univ _)

omit [FloatOps F] in
theorem slotFree_ready (s : Fin 2) (b : Fin 8) : slotFree (F := F) c W s ⊢ slotReady c W s b := by
  unfold slotFree slotReady
  refine BI.bigSep_mono fun j _ => ?_
  show freeP (F := F) c W s j ⊢ readyP c W b s j
  iintro ⟨Hc, Hp, Hw⟩
  ihave Hw' := (whole_split (F := F) c W s j b).1 $$ Hw
  icases Hw' with ⟨Hs, Hr⟩
  isplitl [Hc]; · iexact Hc
  isplitl [Hp]; · iexact Hp
  isplitl [Hs]; · iexact Hs
  iexact Hr

omit [FloatOps F] in
theorem slotReady_free (s : Fin 2) (b : Fin 8) : slotReady (F := F) c W s b ⊢ slotFree c W s := by
  unfold slotFree slotReady
  refine BI.bigSep_mono fun j _ => ?_
  show readyP (F := F) c W b s j ⊢ freeP c W s j
  iintro ⟨Hc, Hp, Hs, Hr⟩
  isplitl [Hc]; · iexact Hc
  isplitl [Hp]; · iexact Hp
  iapply (whole_split (F := F) c W s j b).2
  isplitl [Hs]; · iexact Hs
  iexact Hr

/-! ## The landed parts are the slot, at block `b`'s rows -/

/-- Block `b` of the activations as contents of the double buffer: row `r` of either slot is row `2048 b + r`. -/
def blockG (b : Fin 8) : BufAt (F := F) c scM := fun x =>
  W (ix2 (n0 := 16384) (n1 := 2048) ⟨2048 * b.val + (x 1).val, by have h : (x 1).val < 2048 := (x 1).isLt; have := b.isLt; omega⟩ (x 2))

/-- Slot `s` held at `g`. -/
abbrev slotP (s : Fin 2) (g : BufAt (F := F) c scM) : sProp 𝕄 := (slotM s).view.loc (c : Thread nD τ) ↦[(slotM s).view.set]{fullShare} g

abbrev partSet (s : Fin 2) (j : Fin 8) : Finset S2x2048x2048.Idx := (Rect.unit (s := S2x2048x2048) ![s.val, 256 * j.val, 0] S1x256x2048.size (inb_part s j)).set
abbrev slotSet (s : Fin 2) : Finset S2x2048x2048.Idx := (Rect.unit (s := S2x2048x2048) ![s.val, 0, 0] S1x2048x2048.size (inb_slot s)).set
omit [FloatOps F] in
theorem partSet_eq (s : Fin 2) (j : Fin 8) : (partM s j).view.set = partSet s j := by
  simp only [partM, Memref.view_squeeze, View.set_reshape]; exact View.set_slice_whole _ _
omit [FloatOps F] in
theorem slotSet_eq (s : Fin 2) : (slotM s).view.set = slotSet s := by
  simp only [slotM]; exact View.set_slice_whole _ _
theorem partSet_disjoint (s : Fin 2) (j j' : Fin 8) (h : j ≠ j') : Disjoint (partSet s j) (partSet s j') :=
  Ring.lead_disjoint (s := S2x2048x2048) (1 : Fin 3) 256 (fun j : Fin 8 => (![s.val, 256 * j.val, 0] : Fin 3 → Nat)) S1x256x2048.size (inb_part s) (fun j => by simp) rfl j j' h
theorem slotSet_disjoint (s s' : Fin 2) (h : s ≠ s') : Disjoint (slotSet s) (slotSet s') :=
  Ring.lead_disjoint (s := S2x2048x2048) (0 : Fin 3) 1 (fun s : Fin 2 => (![s.val, 0, 0] : Fin 3 → Nat)) S1x2048x2048.size inb_slot (fun s => by simp) rfl s s' h
theorem slotSet_cover : Finset.univ.biUnion slotSet = Finset.univ :=
  Ring.lead_cover (s := S2x2048x2048) (0 : Fin 3) 1 (fun s : Fin 2 => (![s.val, 0, 0] : Fin 3 → Nat)) S1x2048x2048.size inb_slot (fun s => by simp)
    (fun s a ha => by fin_cases a <;> first | exact absurd rfl ha | rfl) rfl (fun a ha => by fin_cases a <;> first | exact absurd rfl ha | rfl) rfl
/-- The eight parts of a slot make the slot. -/
theorem partSet_cover (s : Fin 2) : Finset.univ.biUnion (partSet s) = slotSet s := by
  ext i
  simp only [Finset.mem_biUnion, Finset.mem_univ, true_and, partSet, slotSet, Rect.mem_set_unit]
  have h1 : (i 1).val < 2048 := (i 1).isLt
  have h2 : (i 2).val < 2048 := (i 2).isLt
  constructor
  · rintro ⟨j, hj⟩ a
    have hj0 := hj 0; have hj1 := hj 1
    fin_cases a
    · simpa using hj0
    · simpa using h1
    · simpa using h2
  · intro h
    refine ⟨⟨(i 1).val / 256, by omega⟩, fun a => ?_⟩
    have h0 := h 0
    fin_cases a
    · simpa using h0
    · constructor
      · show 256 * ((i 1).val / 256) ≤ (i 1).val; omega
      · show (i 1).val < 256 * ((i 1).val / 256) + 256; omega
    · simpa using h2

omit [FloatOps F] in
/-- What a transfer leaves in a part is block `b`'s rows there, whatever the part held before. -/
theorem landed_eq (s : Fin 2) (j b : Fin 8) (f : BufAt (F := F) c (partM s j)) :
    partP (F := F) c s j (landed c W s j b f) = partP c s j (blockG c W b) := by
  refine pointsTo_congr fun i hi => ?_
  obtain ⟨x, -, rfl⟩ := Finset.mem_map.mp hi
  show (partM s j).view.writes (Elt F) f [⟨Rect.whole S256x2048, ReadAs.same.apply ((srcM b j).view.read (Elt F) W)⟩] ((partM s j).view.emb x) = _
  obtain ⟨x0, x1, rfl⟩ : ∃ (x0 : Fin 256) (x1 : Fin 2048), x = ix2 x0 x1 := ⟨x 0, x 1, by funext a; fin_cases a <;> rfl⟩
  have hj := j.isLt
  have hb := b.isLt
  have hx0 : x0.val < 256 := x0.isLt
  have h1 : (partM s j).view.emb (ix2 x0 x1) = (ix3 (n0 := 2) (n1 := 2048) (n2 := 2048) s ⟨256 * j.val + x0.val, by omega⟩ x1 : S2x2048x2048.Idx) := by
    show (Rect.unit (s := S2x2048x2048) ![s.val, 256 * j.val, 0] S1x256x2048.size (inb_part s j)).emb
      (Shape.reshapeEquiv (squeezes_S1x256x2048_S256x2048).numel_eq (ix2 x0 x1)) = _
    rw [reshapeEquiv_ix2_1ab]
    funext a
    fin_cases a <;> apply Fin.ext <;> simp [Rect.emb_apply, ix3]
  have h2 : (srcM b j).view.emb (ix2 x0 x1) = (ix2 (n0 := 16384) (n1 := 2048) ⟨2048 * b.val + 256 * j.val + x0.val, by omega⟩ x1 : S16384x2048.Idx) := by
    show (Rect.unit (s := S16384x2048) ![2048 * b.val + 256 * j.val, 0] S256x2048.size (inb_src b j)).emb (ix2 x0 x1) = _
    funext a
    fin_cases a <;> apply Fin.ext <;> simp [Rect.emb_apply, ix2]
  have h3 : (((partM s j).view.slice (Rect.whole S256x2048)).emb (ix2 x0 x1) : S2x2048x2048.Idx) = (partM s j).view.emb (ix2 x0 x1) := by
    show (partM s j).view.emb ((Rect.whole S256x2048).emb (ix2 x0 x1)) = _
    rw [Rect.emb_whole_apply]
  rw [View.writes_singleton, ← h3, View.write_emb_of_mem _ _ (Finset.mem_univ _), h3, h1]
  show W ((srcM b j).view.emb (ix2 x0 x1)) = _
  rw [h2]
  unfold blockG
  refine congrArg W (funext fun a => ?_)
  fin_cases a
  · exact Fin.ext (show 2048 * b.val + 256 * j.val + x0.val = 2048 * b.val + (256 * j.val + x0.val) by omega)
  · rfl

omit [FloatOps F] in
/-- Eight parts at block `b`'s rows are the slot at block `b`'s rows, and back. -/
theorem parts_slot (s : Fin 2) (g : BufAt (F := F) c scM) :
    (bigSep Finset.univ (fun j => partP (F := F) c s j g) : sProp 𝕄) = slotP c s g := by
  have e : ∀ j, partP (F := F) c s j g = (((c : Thread nD τ).loc cc0_scratch0) ↦[partSet s j]{fullShare} g : sProp 𝕄) := fun j => by
    unfold partP; rw [partSet_eq]; rfl
  have e' : slotP (F := F) c s g = (((c : Thread nD τ).loc cc0_scratch0) ↦[slotSet s]{fullShare} g : sProp 𝕄) := by
    unfold slotP; rw [slotSet_eq]; rfl
  rw [e', ← partSet_cover, pointsTo_biUnion _ _ (fun j _ j' _ h => partSet_disjoint s j j' h)]
  exact congrArg _ (funext e)

omit [FloatOps F] in
/-- Eight landed parts are the slot at block `b`'s rows. -/
theorem join8 (s : Fin 2) (b : Fin 8) (g0 : BufAt (F := F) c (partM s 0)) (g1 : BufAt (F := F) c (partM s 1)) (g2 : BufAt (F := F) c (partM s 2)) (g3 : BufAt (F := F) c (partM s 3)) (g4 : BufAt (F := F) c (partM s 4)) (g5 : BufAt (F := F) c (partM s 5)) (g6 : BufAt (F := F) c (partM s 6)) (g7 : BufAt (F := F) c (partM s 7)) :
    iprop(partP c s 0 (landed c W s 0 b g0) ∗ partP c s 1 (landed c W s 1 b g1) ∗ partP c s 2 (landed c W s 2 b g2) ∗ partP c s 3 (landed c W s 3 b g3) ∗ partP c s 4 (landed c W s 4 b g4) ∗ partP c s 5 (landed c W s 5 b g5) ∗ partP c s 6 (landed c W s 6 b g6) ∗ partP c s 7 (landed c W s 7 b g7)) ⊢ slotP c s (blockG c W b) := by
  rw [landed_eq, landed_eq, landed_eq, landed_eq, landed_eq, landed_eq, landed_eq, landed_eq, ← parts_slot, bigSep8]

omit [FloatOps F] in
/-- The slot is its eight parts, each held. -/
theorem split8 (s : Fin 2) (g : BufAt (F := F) c scM) :
    slotP c s g ⊢ iprop(partP c s 0 g ∗ partP c s 1 g ∗ partP c s 2 g ∗ partP c s 3 g ∗ partP c s 4 g ∗ partP c s 5 g ∗ partP c s 6 g ∗ partP c s 7 g) := by
  rw [← parts_slot, bigSep8]

omit [FloatOps F] in
/-- A slot in flight, and a slot ready, part by part. -/
theorem fly8 (s : Fin 2) (b : Fin 8) : slotFly (F := F) c W s b = iprop(flyP c W b s 0 ∗ flyP c W b s 1 ∗ flyP c W b s 2 ∗ flyP c W b s 3 ∗ flyP c W b s 4 ∗ flyP c W b s 5 ∗ flyP c W b s 6 ∗ flyP c W b s 7) := bigSep8 _
omit [FloatOps F] in
theorem ready8 (s : Fin 2) (b : Fin 8) : slotReady (F := F) c W s b = iprop(readyP c W b s 0 ∗ readyP c W b s 1 ∗ readyP c W b s 2 ∗ readyP c W b s 3 ∗ readyP c W b s 4 ∗ readyP c W b s 5 ∗ readyP c W b s 6 ∗ readyP c W b s 7) := bigSep8 _
end Families

/-! ## The branch conditions, and the body's names at a point -/

/-- The first point's condition (start block 0), and the condition under which the next block is started. -/
abbrev cond0 (i : grid0.Coords) : Prop := (Scalar.cmpi .ne (Scalar.extui (Scalar.cmpi .eq (BitVec.ofNat 32 (i 0).val) 0#32)) 0#32) = 1#1
abbrev cond1 (i : grid0.Coords) : Prop := k0_cond2 i = 1#1
instance : NeZero grid0.N := ⟨by rw [N_0]; decide⟩
/-- The first holds at point 0 only; -/
theorem hcond0 : ∀ t : Fin grid0.N, cond0 (grid0.coords t) ↔ t.val = 0 := by decide +kernel
/-- the second at every point but the last. -/
theorem hcond1 : ∀ t : Fin grid0.N, cond1 (grid0.coords t) ↔ t.val < 7 := by decide +kernel

section Canon
set_option synthInstance.maxSize 4096
/-- The offsets the body computes at point `t`, part by part, in closed form: the first step's transfers (into slot 0), the
    next block's transfers (into the other slot), the waits (on this point's slot). -/
theorem firstOffPart : ∀ t : Fin grid0.N, cond0 (grid0.coords t) → ∀ j : Fin 8, (![0, 256 * j.val, 0] : Fin 3 → Nat) = ![(Ring.sl 2 t.val).val, 256 * j.val, 0] := by decide +kernel
theorem firstOffCell : ∀ t : Fin grid0.N, cond0 (grid0.coords t) → ∀ j : Fin 8, (![0, j.val] : Fin 2 → Nat) = ![(Ring.sl 2 t.val).val, j.val] := by decide +kernel
theorem firstOffSrc : ∀ t : Fin grid0.N, cond0 (grid0.coords t) → ∀ j : Fin 8, (![256 * j.val, 0] : Fin 2 → Nat) = ![2048 * (Ring.bk 8 t.val).val + 256 * j.val, 0] := by decide +kernel
theorem nextOffPart : ∀ t : Fin grid0.N, ∀ j : Fin 8, (![k0_off2, k0_off5, k0_off7, k0_off9, k0_off11, k0_off13, k0_off15, k0_off17] : Fin 8 → grid0.Coords → Fin 3 → Nat) j (grid0.coords t) = ![(Ring.sl 2 (t.val + 1)).val, 256 * j.val, 0] := by decide +kernel
theorem nextOffCell : ∀ t : Fin grid0.N, ∀ j : Fin 8, (![k0_off1, k0_off4, k0_off6, k0_off8, k0_off10, k0_off12, k0_off14, k0_off16] : Fin 8 → grid0.Coords → Fin 2 → Nat) j (grid0.coords t) = ![(Ring.sl 2 (t.val + 1)).val, j.val] := by decide +kernel
theorem nextOffSrc : ∀ t : Fin grid0.N, cond1 (grid0.coords t) → ∀ j : Fin 8, k0_off3 (grid0.coords t) (BitVec.ofNat 32 (256 * j.val)) = ![2048 * (Ring.bk 8 (t.val + 1)).val + 256 * j.val, 0] := by decide +kernel
theorem waitOffPart : ∀ t : Fin grid0.N, ∀ j : Fin 8, (![k0_off19, k0_off22, k0_off24, k0_off26, k0_off28, k0_off30, k0_off32, k0_off34] : Fin 8 → grid0.Coords → Fin 3 → Nat) j (grid0.coords t) = ![(Ring.sl 2 t.val).val, 256 * j.val, 0] := by decide +kernel
theorem waitOffCell : ∀ t : Fin grid0.N, ∀ j : Fin 8, (![k0_off18, k0_off21, k0_off23, k0_off25, k0_off27, k0_off29, k0_off31, k0_off33] : Fin 8 → grid0.Coords → Fin 2 → Nat) j (grid0.coords t) = ![(Ring.sl 2 t.val).val, j.val] := by decide +kernel
theorem waitOffSrc : ∀ t : Fin grid0.N, ∀ j : Fin 8, k0_off20 (grid0.coords t) (BitVec.ofNat 32 (256 * j.val)) = ![2048 * (Ring.bk 8 t.val).val + 256 * j.val, 0] := by decide +kernel
/-- The body's load reads the whole of this point's slot. -/
theorem loadOff : ∀ t : Fin grid0.N, k0_off35 (grid0.coords t) = ![(Ring.sl 2 t.val).val, 0, 0] := by decide +kernel

@[sl_canon] theorem firstPart0 (t : Fin grid0.N) (h0 : cond0 (grid0.coords t)) :
    (scM.slice (Rect.unit (s := S2x2048x2048) ![0, 0, 0] S1x256x2048.size inb_S2x2048x2048_S1x256x2048_0_0_0) (fun _ => rfl)).squeeze S256x2048 squeezes_S1x256x2048_S256x2048 = partM (Ring.sl 2 t.val) 0 := partM_eq (firstOffPart t h0 0) _
@[sl_canon] theorem firstCell0 (t : Fin grid0.N) (h0 : cond0 (grid0.coords t)) :
    (cc0_scratch1.slice (Rect.unit (s := S2x8) ![0, 0] S1x1.size inb_S2x8_S1x1_0_0)).squeeze S_ squeezes_S1x1_S_ = cellA (Ring.sl 2 t.val) 0 := cellA_eq (firstOffCell t h0 0) _
@[sl_canon] theorem firstSrc0 (t : Fin grid0.N) (h0 : cond0 (grid0.coords t)) :
    hbM.slice (Rect.unit (s := S16384x2048) ![0, 0] S256x2048.size inb_S16384x2048_S256x2048_0_0) (fun _ => rfl) = srcM (Ring.bk 8 t.val) 0 := srcM_eq (firstOffSrc t h0 0) _
@[sl_canon] theorem firstPart1 (t : Fin grid0.N) (h0 : cond0 (grid0.coords t)) :
    (scM.slice (Rect.unit (s := S2x2048x2048) ![0, 256, 0] S1x256x2048.size inb_S2x2048x2048_S1x256x2048_0_256_0) (fun _ => rfl)).squeeze S256x2048 squeezes_S1x256x2048_S256x2048 = partM (Ring.sl 2 t.val) 1 := partM_eq (firstOffPart t h0 1) _
@[sl_canon] theorem firstCell1 (t : Fin grid0.N) (h0 : cond0 (grid0.coords t)) :
    (cc0_scratch1.slice (Rect.unit (s := S2x8) ![0, 1] S1x1.size inb_S2x8_S1x1_0_1)).squeeze S_ squeezes_S1x1_S_ = cellA (Ring.sl 2 t.val) 1 := cellA_eq (firstOffCell t h0 1) _
@[sl_canon] theorem firstSrc1 (t : Fin grid0.N) (h0 : cond0 (grid0.coords t)) :
    hbM.slice (Rect.unit (s := S16384x2048) ![256, 0] S256x2048.size inb_S16384x2048_S256x2048_256_0) (fun _ => rfl) = srcM (Ring.bk 8 t.val) 1 := srcM_eq (firstOffSrc t h0 1) _
@[sl_canon] theorem firstPart2 (t : Fin grid0.N) (h0 : cond0 (grid0.coords t)) :
    (scM.slice (Rect.unit (s := S2x2048x2048) ![0, 512, 0] S1x256x2048.size inb_S2x2048x2048_S1x256x2048_0_512_0) (fun _ => rfl)).squeeze S256x2048 squeezes_S1x256x2048_S256x2048 = partM (Ring.sl 2 t.val) 2 := partM_eq (firstOffPart t h0 2) _
@[sl_canon] theorem firstCell2 (t : Fin grid0.N) (h0 : cond0 (grid0.coords t)) :
    (cc0_scratch1.slice (Rect.unit (s := S2x8) ![0, 2] S1x1.size inb_S2x8_S1x1_0_2)).squeeze S_ squeezes_S1x1_S_ = cellA (Ring.sl 2 t.val) 2 := cellA_eq (firstOffCell t h0 2) _
@[sl_canon] theorem firstSrc2 (t : Fin grid0.N) (h0 : cond0 (grid0.coords t)) :
    hbM.slice (Rect.unit (s := S16384x2048) ![512, 0] S256x2048.size inb_S16384x2048_S256x2048_512_0) (fun _ => rfl) = srcM (Ring.bk 8 t.val) 2 := srcM_eq (firstOffSrc t h0 2) _
@[sl_canon] theorem firstPart3 (t : Fin grid0.N) (h0 : cond0 (grid0.coords t)) :
    (scM.slice (Rect.unit (s := S2x2048x2048) ![0, 768, 0] S1x256x2048.size inb_S2x2048x2048_S1x256x2048_0_768_0) (fun _ => rfl)).squeeze S256x2048 squeezes_S1x256x2048_S256x2048 = partM (Ring.sl 2 t.val) 3 := partM_eq (firstOffPart t h0 3) _
@[sl_canon] theorem firstCell3 (t : Fin grid0.N) (h0 : cond0 (grid0.coords t)) :
    (cc0_scratch1.slice (Rect.unit (s := S2x8) ![0, 3] S1x1.size inb_S2x8_S1x1_0_3)).squeeze S_ squeezes_S1x1_S_ = cellA (Ring.sl 2 t.val) 3 := cellA_eq (firstOffCell t h0 3) _
@[sl_canon] theorem firstSrc3 (t : Fin grid0.N) (h0 : cond0 (grid0.coords t)) :
    hbM.slice (Rect.unit (s := S16384x2048) ![768, 0] S256x2048.size inb_S16384x2048_S256x2048_768_0) (fun _ => rfl) = srcM (Ring.bk 8 t.val) 3 := srcM_eq (firstOffSrc t h0 3) _
@[sl_canon] theorem firstPart4 (t : Fin grid0.N) (h0 : cond0 (grid0.coords t)) :
    (scM.slice (Rect.unit (s := S2x2048x2048) ![0, 1024, 0] S1x256x2048.size inb_S2x2048x2048_S1x256x2048_0_1024_0) (fun _ => rfl)).squeeze S256x2048 squeezes_S1x256x2048_S256x2048 = partM (Ring.sl 2 t.val) 4 := partM_eq (firstOffPart t h0 4) _
@[sl_canon] theorem firstCell4 (t : Fin grid0.N) (h0 : cond0 (grid0.coords t)) :
    (cc0_scratch1.slice (Rect.unit (s := S2x8) ![0, 4] S1x1.size inb_S2x8_S1x1_0_4)).squeeze S_ squeezes_S1x1_S_ = cellA (Ring.sl 2 t.val) 4 := cellA_eq (firstOffCell t h0 4) _
@[sl_canon] theorem firstSrc4 (t : Fin grid0.N) (h0 : cond0 (grid0.coords t)) :
    hbM.slice (Rect.unit (s := S16384x2048) ![1024, 0] S256x2048.size inb_S16384x2048_S256x2048_1024_0) (fun _ => rfl) = srcM (Ring.bk 8 t.val) 4 := srcM_eq (firstOffSrc t h0 4) _
@[sl_canon] theorem firstPart5 (t : Fin grid0.N) (h0 : cond0 (grid0.coords t)) :
    (scM.slice (Rect.unit (s := S2x2048x2048) ![0, 1280, 0] S1x256x2048.size inb_S2x2048x2048_S1x256x2048_0_1280_0) (fun _ => rfl)).squeeze S256x2048 squeezes_S1x256x2048_S256x2048 = partM (Ring.sl 2 t.val) 5 := partM_eq (firstOffPart t h0 5) _
@[sl_canon] theorem firstCell5 (t : Fin grid0.N) (h0 : cond0 (grid0.coords t)) :
    (cc0_scratch1.slice (Rect.unit (s := S2x8) ![0, 5] S1x1.size inb_S2x8_S1x1_0_5)).squeeze S_ squeezes_S1x1_S_ = cellA (Ring.sl 2 t.val) 5 := cellA_eq (firstOffCell t h0 5) _
@[sl_canon] theorem firstSrc5 (t : Fin grid0.N) (h0 : cond0 (grid0.coords t)) :
    hbM.slice (Rect.unit (s := S16384x2048) ![1280, 0] S256x2048.size inb_S16384x2048_S256x2048_1280_0) (fun _ => rfl) = srcM (Ring.bk 8 t.val) 5 := srcM_eq (firstOffSrc t h0 5) _
@[sl_canon] theorem firstPart6 (t : Fin grid0.N) (h0 : cond0 (grid0.coords t)) :
    (scM.slice (Rect.unit (s := S2x2048x2048) ![0, 1536, 0] S1x256x2048.size inb_S2x2048x2048_S1x256x2048_0_1536_0) (fun _ => rfl)).squeeze S256x2048 squeezes_S1x256x2048_S256x2048 = partM (Ring.sl 2 t.val) 6 := partM_eq (firstOffPart t h0 6) _
@[sl_canon] theorem firstCell6 (t : Fin grid0.N) (h0 : cond0 (grid0.coords t)) :
    (cc0_scratch1.slice (Rect.unit (s := S2x8) ![0, 6] S1x1.size inb_S2x8_S1x1_0_6)).squeeze S_ squeezes_S1x1_S_ = cellA (Ring.sl 2 t.val) 6 := cellA_eq (firstOffCell t h0 6) _
@[sl_canon] theorem firstSrc6 (t : Fin grid0.N) (h0 : cond0 (grid0.coords t)) :
    hbM.slice (Rect.unit (s := S16384x2048) ![1536, 0] S256x2048.size inb_S16384x2048_S256x2048_1536_0) (fun _ => rfl) = srcM (Ring.bk 8 t.val) 6 := srcM_eq (firstOffSrc t h0 6) _
@[sl_canon] theorem firstPart7 (t : Fin grid0.N) (h0 : cond0 (grid0.coords t)) :
    (scM.slice (Rect.unit (s := S2x2048x2048) ![0, 1792, 0] S1x256x2048.size inb_S2x2048x2048_S1x256x2048_0_1792_0) (fun _ => rfl)).squeeze S256x2048 squeezes_S1x256x2048_S256x2048 = partM (Ring.sl 2 t.val) 7 := partM_eq (firstOffPart t h0 7) _
@[sl_canon] theorem firstCell7 (t : Fin grid0.N) (h0 : cond0 (grid0.coords t)) :
    (cc0_scratch1.slice (Rect.unit (s := S2x8) ![0, 7] S1x1.size inb_S2x8_S1x1_0_7)).squeeze S_ squeezes_S1x1_S_ = cellA (Ring.sl 2 t.val) 7 := cellA_eq (firstOffCell t h0 7) _
@[sl_canon] theorem firstSrc7 (t : Fin grid0.N) (h0 : cond0 (grid0.coords t)) :
    hbM.slice (Rect.unit (s := S16384x2048) ![1792, 0] S256x2048.size inb_S16384x2048_S256x2048_1792_0) (fun _ => rfl) = srcM (Ring.bk 8 t.val) 7 := srcM_eq (firstOffSrc t h0 7) _
@[sl_canon] theorem nextPart0 (t : Fin grid0.N) (h1 : cond1 (grid0.coords t)) :
    (scM.slice (Rect.unit (s := S2x2048x2048) (k0_off2 (grid0.coords t)) S1x256x2048.size (k0_off2_inb (grid0.coords t) h1)) (fun _ => rfl)).squeeze S256x2048 squeezes_S1x256x2048_S256x2048 = partM (Ring.sl 2 (t.val + 1)) 0 := partM_eq (nextOffPart t 0) _
@[sl_canon] theorem nextCell0 (t : Fin grid0.N) (h1 : cond1 (grid0.coords t)) :
    (cc0_scratch1.slice (Rect.unit (s := S2x8) (k0_off1 (grid0.coords t)) S1x1.size (k0_off1_inb (grid0.coords t) h1))).squeeze S_ squeezes_S1x1_S_ = cellA (Ring.sl 2 (t.val + 1)) 0 := cellA_eq (nextOffCell t 0) _
@[sl_canon] theorem nextSrc0 (t : Fin grid0.N) (h1 : cond1 (grid0.coords t)) :
    hbM.slice (Rect.unit (s := S16384x2048) (k0_off3 (grid0.coords t) 0#32) S256x2048.size (k0_off3_inb (grid0.coords t) h1 0)) (fun _ => rfl) = srcM (Ring.bk 8 (t.val + 1)) 0 := srcM_eq (nextOffSrc t h1 0) _
@[sl_canon] theorem nextPart1 (t : Fin grid0.N) (h1 : cond1 (grid0.coords t)) :
    (scM.slice (Rect.unit (s := S2x2048x2048) (k0_off5 (grid0.coords t)) S1x256x2048.size (k0_off5_inb (grid0.coords t) h1)) (fun _ => rfl)).squeeze S256x2048 squeezes_S1x256x2048_S256x2048 = partM (Ring.sl 2 (t.val + 1)) 1 := partM_eq (nextOffPart t 1) _
@[sl_canon] theorem nextCell1 (t : Fin grid0.N) (h1 : cond1 (grid0.coords t)) :
    (cc0_scratch1.slice (Rect.unit (s := S2x8) (k0_off4 (grid0.coords t)) S1x1.size (k0_off4_inb (grid0.coords t) h1))).squeeze S_ squeezes_S1x1_S_ = cellA (Ring.sl 2 (t.val + 1)) 1 := cellA_eq (nextOffCell t 1) _
@[sl_canon] theorem nextSrc1 (t : Fin grid0.N) (h1 : cond1 (grid0.coords t)) :
    hbM.slice (Rect.unit (s := S16384x2048) (k0_off3 (grid0.coords t) 256#32) S256x2048.size (k0_off3_inb (grid0.coords t) h1 1)) (fun _ => rfl) = srcM (Ring.bk 8 (t.val + 1)) 1 := srcM_eq (nextOffSrc t h1 1) _
@[sl_canon] theorem nextPart2 (t : Fin grid0.N) (h1 : cond1 (grid0.coords t)) :
    (scM.slice (Rect.unit (s := S2x2048x2048) (k0_off7 (grid0.coords t)) S1x256x2048.size (k0_off7_inb (grid0.coords t) h1)) (fun _ => rfl)).squeeze S256x2048 squeezes_S1x256x2048_S256x2048 = partM (Ring.sl 2 (t.val + 1)) 2 := partM_eq (nextOffPart t 2) _
@[sl_canon] theorem nextCell2 (t : Fin grid0.N) (h1 : cond1 (grid0.coords t)) :
    (cc0_scratch1.slice (Rect.unit (s := S2x8) (k0_off6 (grid0.coords t)) S1x1.size (k0_off6_inb (grid0.coords t) h1))).squeeze S_ squeezes_S1x1_S_ = cellA (Ring.sl 2 (t.val + 1)) 2 := cellA_eq (nextOffCell t 2) _
@[sl_canon] theorem nextSrc2 (t : Fin grid0.N) (h1 : cond1 (grid0.coords t)) :
    hbM.slice (Rect.unit (s := S16384x2048) (k0_off3 (grid0.coords t) 512#32) S256x2048.size (k0_off3_inb (grid0.coords t) h1 2)) (fun _ => rfl) = srcM (Ring.bk 8 (t.val + 1)) 2 := srcM_eq (nextOffSrc t h1 2) _
@[sl_canon] theorem nextPart3 (t : Fin grid0.N) (h1 : cond1 (grid0.coords t)) :
    (scM.slice (Rect.unit (s := S2x2048x2048) (k0_off9 (grid0.coords t)) S1x256x2048.size (k0_off9_inb (grid0.coords t) h1)) (fun _ => rfl)).squeeze S256x2048 squeezes_S1x256x2048_S256x2048 = partM (Ring.sl 2 (t.val + 1)) 3 := partM_eq (nextOffPart t 3) _
@[sl_canon] theorem nextCell3 (t : Fin grid0.N) (h1 : cond1 (grid0.coords t)) :
    (cc0_scratch1.slice (Rect.unit (s := S2x8) (k0_off8 (grid0.coords t)) S1x1.size (k0_off8_inb (grid0.coords t) h1))).squeeze S_ squeezes_S1x1_S_ = cellA (Ring.sl 2 (t.val + 1)) 3 := cellA_eq (nextOffCell t 3) _
@[sl_canon] theorem nextSrc3 (t : Fin grid0.N) (h1 : cond1 (grid0.coords t)) :
    hbM.slice (Rect.unit (s := S16384x2048) (k0_off3 (grid0.coords t) 768#32) S256x2048.size (k0_off3_inb (grid0.coords t) h1 3)) (fun _ => rfl) = srcM (Ring.bk 8 (t.val + 1)) 3 := srcM_eq (nextOffSrc t h1 3) _
@[sl_canon] theorem nextPart4 (t : Fin grid0.N) (h1 : cond1 (grid0.coords t)) :
    (scM.slice (Rect.unit (s := S2x2048x2048) (k0_off11 (grid0.coords t)) S1x256x2048.size (k0_off11_inb (grid0.coords t) h1)) (fun _ => rfl)).squeeze S256x2048 squeezes_S1x256x2048_S256x2048 = partM (Ring.sl 2 (t.val + 1)) 4 := partM_eq (nextOffPart t 4) _
@[sl_canon] theorem nextCell4 (t : Fin grid0.N) (h1 : cond1 (grid0.coords t)) :
    (cc0_scratch1.slice (Rect.unit (s := S2x8) (k0_off10 (grid0.coords t)) S1x1.size (k0_off10_inb (grid0.coords t) h1))).squeeze S_ squeezes_S1x1_S_ = cellA (Ring.sl 2 (t.val + 1)) 4 := cellA_eq (nextOffCell t 4) _
@[sl_canon] theorem nextSrc4 (t : Fin grid0.N) (h1 : cond1 (grid0.coords t)) :
    hbM.slice (Rect.unit (s := S16384x2048) (k0_off3 (grid0.coords t) 1024#32) S256x2048.size (k0_off3_inb (grid0.coords t) h1 4)) (fun _ => rfl) = srcM (Ring.bk 8 (t.val + 1)) 4 := srcM_eq (nextOffSrc t h1 4) _
@[sl_canon] theorem nextPart5 (t : Fin grid0.N) (h1 : cond1 (grid0.coords t)) :
    (scM.slice (Rect.unit (s := S2x2048x2048) (k0_off13 (grid0.coords t)) S1x256x2048.size (k0_off13_inb (grid0.coords t) h1)) (fun _ => rfl)).squeeze S256x2048 squeezes_S1x256x2048_S256x2048 = partM (Ring.sl 2 (t.val + 1)) 5 := partM_eq (nextOffPart t 5) _
@[sl_canon] theorem nextCell5 (t : Fin grid0.N) (h1 : cond1 (grid0.coords t)) :
    (cc0_scratch1.slice (Rect.unit (s := S2x8) (k0_off12 (grid0.coords t)) S1x1.size (k0_off12_inb (grid0.coords t) h1))).squeeze S_ squeezes_S1x1_S_ = cellA (Ring.sl 2 (t.val + 1)) 5 := cellA_eq (nextOffCell t 5) _
@[sl_canon] theorem nextSrc5 (t : Fin grid0.N) (h1 : cond1 (grid0.coords t)) :
    hbM.slice (Rect.unit (s := S16384x2048) (k0_off3 (grid0.coords t) 1280#32) S256x2048.size (k0_off3_inb (grid0.coords t) h1 5)) (fun _ => rfl) = srcM (Ring.bk 8 (t.val + 1)) 5 := srcM_eq (nextOffSrc t h1 5) _
@[sl_canon] theorem nextPart6 (t : Fin grid0.N) (h1 : cond1 (grid0.coords t)) :
    (scM.slice (Rect.unit (s := S2x2048x2048) (k0_off15 (grid0.coords t)) S1x256x2048.size (k0_off15_inb (grid0.coords t) h1)) (fun _ => rfl)).squeeze S256x2048 squeezes_S1x256x2048_S256x2048 = partM (Ring.sl 2 (t.val + 1)) 6 := partM_eq (nextOffPart t 6) _
@[sl_canon] theorem nextCell6 (t : Fin grid0.N) (h1 : cond1 (grid0.coords t)) :
    (cc0_scratch1.slice (Rect.unit (s := S2x8) (k0_off14 (grid0.coords t)) S1x1.size (k0_off14_inb (grid0.coords t) h1))).squeeze S_ squeezes_S1x1_S_ = cellA (Ring.sl 2 (t.val + 1)) 6 := cellA_eq (nextOffCell t 6) _
@[sl_canon] theorem nextSrc6 (t : Fin grid0.N) (h1 : cond1 (grid0.coords t)) :
    hbM.slice (Rect.unit (s := S16384x2048) (k0_off3 (grid0.coords t) 1536#32) S256x2048.size (k0_off3_inb (grid0.coords t) h1 6)) (fun _ => rfl) = srcM (Ring.bk 8 (t.val + 1)) 6 := srcM_eq (nextOffSrc t h1 6) _
@[sl_canon] theorem nextPart7 (t : Fin grid0.N) (h1 : cond1 (grid0.coords t)) :
    (scM.slice (Rect.unit (s := S2x2048x2048) (k0_off17 (grid0.coords t)) S1x256x2048.size (k0_off17_inb (grid0.coords t) h1)) (fun _ => rfl)).squeeze S256x2048 squeezes_S1x256x2048_S256x2048 = partM (Ring.sl 2 (t.val + 1)) 7 := partM_eq (nextOffPart t 7) _
@[sl_canon] theorem nextCell7 (t : Fin grid0.N) (h1 : cond1 (grid0.coords t)) :
    (cc0_scratch1.slice (Rect.unit (s := S2x8) (k0_off16 (grid0.coords t)) S1x1.size (k0_off16_inb (grid0.coords t) h1))).squeeze S_ squeezes_S1x1_S_ = cellA (Ring.sl 2 (t.val + 1)) 7 := cellA_eq (nextOffCell t 7) _
@[sl_canon] theorem nextSrc7 (t : Fin grid0.N) (h1 : cond1 (grid0.coords t)) :
    hbM.slice (Rect.unit (s := S16384x2048) (k0_off3 (grid0.coords t) 1792#32) S256x2048.size (k0_off3_inb (grid0.coords t) h1 7)) (fun _ => rfl) = srcM (Ring.bk 8 (t.val + 1)) 7 := srcM_eq (nextOffSrc t h1 7) _
@[sl_canon] theorem waitPart0 (t : Fin grid0.N) :
    (scM.slice (Rect.unit (s := S2x2048x2048) (k0_off19 (grid0.coords t)) S1x256x2048.size (k0_off19_inb (grid0.coords t))) (fun _ => rfl)).squeeze S256x2048 squeezes_S1x256x2048_S256x2048 = partM (Ring.sl 2 t.val) 0 := partM_eq (waitOffPart t 0) _
@[sl_canon] theorem waitCell0 (t : Fin grid0.N) :
    (cc0_scratch1.slice (Rect.unit (s := S2x8) (k0_off18 (grid0.coords t)) S1x1.size (k0_off18_inb (grid0.coords t)))).squeeze S_ squeezes_S1x1_S_ = cellA (Ring.sl 2 t.val) 0 := cellA_eq (waitOffCell t 0) _
@[sl_canon] theorem waitSrc0 (t : Fin grid0.N) :
    hbM.slice (Rect.unit (s := S16384x2048) (k0_off20 (grid0.coords t) 0#32) S256x2048.size (k0_off20_inb (grid0.coords t) 0)) (fun _ => rfl) = srcM (Ring.bk 8 t.val) 0 := srcM_eq (waitOffSrc t 0) _
@[sl_canon] theorem waitPart1 (t : Fin grid0.N) :
    (scM.slice (Rect.unit (s := S2x2048x2048) (k0_off22 (grid0.coords t)) S1x256x2048.size (k0_off22_inb (grid0.coords t))) (fun _ => rfl)).squeeze S256x2048 squeezes_S1x256x2048_S256x2048 = partM (Ring.sl 2 t.val) 1 := partM_eq (waitOffPart t 1) _
@[sl_canon] theorem waitCell1 (t : Fin grid0.N) :
    (cc0_scratch1.slice (Rect.unit (s := S2x8) (k0_off21 (grid0.coords t)) S1x1.size (k0_off21_inb (grid0.coords t)))).squeeze S_ squeezes_S1x1_S_ = cellA (Ring.sl 2 t.val) 1 := cellA_eq (waitOffCell t 1) _
@[sl_canon] theorem waitSrc1 (t : Fin grid0.N) :
    hbM.slice (Rect.unit (s := S16384x2048) (k0_off20 (grid0.coords t) 256#32) S256x2048.size (k0_off20_inb (grid0.coords t) 1)) (fun _ => rfl) = srcM (Ring.bk 8 t.val) 1 := srcM_eq (waitOffSrc t 1) _
@[sl_canon] theorem waitPart2 (t : Fin grid0.N) :
    (scM.slice (Rect.unit (s := S2x2048x2048) (k0_off24 (grid0.coords t)) S1x256x2048.size (k0_off24_inb (grid0.coords t))) (fun _ => rfl)).squeeze S256x2048 squeezes_S1x256x2048_S256x2048 = partM (Ring.sl 2 t.val) 2 := partM_eq (waitOffPart t 2) _
@[sl_canon] theorem waitCell2 (t : Fin grid0.N) :
    (cc0_scratch1.slice (Rect.unit (s := S2x8) (k0_off23 (grid0.coords t)) S1x1.size (k0_off23_inb (grid0.coords t)))).squeeze S_ squeezes_S1x1_S_ = cellA (Ring.sl 2 t.val) 2 := cellA_eq (waitOffCell t 2) _
@[sl_canon] theorem waitSrc2 (t : Fin grid0.N) :
    hbM.slice (Rect.unit (s := S16384x2048) (k0_off20 (grid0.coords t) 512#32) S256x2048.size (k0_off20_inb (grid0.coords t) 2)) (fun _ => rfl) = srcM (Ring.bk 8 t.val) 2 := srcM_eq (waitOffSrc t 2) _
@[sl_canon] theorem waitPart3 (t : Fin grid0.N) :
    (scM.slice (Rect.unit (s := S2x2048x2048) (k0_off26 (grid0.coords t)) S1x256x2048.size (k0_off26_inb (grid0.coords t))) (fun _ => rfl)).squeeze S256x2048 squeezes_S1x256x2048_S256x2048 = partM (Ring.sl 2 t.val) 3 := partM_eq (waitOffPart t 3) _
@[sl_canon] theorem waitCell3 (t : Fin grid0.N) :
    (cc0_scratch1.slice (Rect.unit (s := S2x8) (k0_off25 (grid0.coords t)) S1x1.size (k0_off25_inb (grid0.coords t)))).squeeze S_ squeezes_S1x1_S_ = cellA (Ring.sl 2 t.val) 3 := cellA_eq (waitOffCell t 3) _
@[sl_canon] theorem waitSrc3 (t : Fin grid0.N) :
    hbM.slice (Rect.unit (s := S16384x2048) (k0_off20 (grid0.coords t) 768#32) S256x2048.size (k0_off20_inb (grid0.coords t) 3)) (fun _ => rfl) = srcM (Ring.bk 8 t.val) 3 := srcM_eq (waitOffSrc t 3) _
@[sl_canon] theorem waitPart4 (t : Fin grid0.N) :
    (scM.slice (Rect.unit (s := S2x2048x2048) (k0_off28 (grid0.coords t)) S1x256x2048.size (k0_off28_inb (grid0.coords t))) (fun _ => rfl)).squeeze S256x2048 squeezes_S1x256x2048_S256x2048 = partM (Ring.sl 2 t.val) 4 := partM_eq (waitOffPart t 4) _
@[sl_canon] theorem waitCell4 (t : Fin grid0.N) :
    (cc0_scratch1.slice (Rect.unit (s := S2x8) (k0_off27 (grid0.coords t)) S1x1.size (k0_off27_inb (grid0.coords t)))).squeeze S_ squeezes_S1x1_S_ = cellA (Ring.sl 2 t.val) 4 := cellA_eq (waitOffCell t 4) _
@[sl_canon] theorem waitSrc4 (t : Fin grid0.N) :
    hbM.slice (Rect.unit (s := S16384x2048) (k0_off20 (grid0.coords t) 1024#32) S256x2048.size (k0_off20_inb (grid0.coords t) 4)) (fun _ => rfl) = srcM (Ring.bk 8 t.val) 4 := srcM_eq (waitOffSrc t 4) _
@[sl_canon] theorem waitPart5 (t : Fin grid0.N) :
    (scM.slice (Rect.unit (s := S2x2048x2048) (k0_off30 (grid0.coords t)) S1x256x2048.size (k0_off30_inb (grid0.coords t))) (fun _ => rfl)).squeeze S256x2048 squeezes_S1x256x2048_S256x2048 = partM (Ring.sl 2 t.val) 5 := partM_eq (waitOffPart t 5) _
@[sl_canon] theorem waitCell5 (t : Fin grid0.N) :
    (cc0_scratch1.slice (Rect.unit (s := S2x8) (k0_off29 (grid0.coords t)) S1x1.size (k0_off29_inb (grid0.coords t)))).squeeze S_ squeezes_S1x1_S_ = cellA (Ring.sl 2 t.val) 5 := cellA_eq (waitOffCell t 5) _
@[sl_canon] theorem waitSrc5 (t : Fin grid0.N) :
    hbM.slice (Rect.unit (s := S16384x2048) (k0_off20 (grid0.coords t) 1280#32) S256x2048.size (k0_off20_inb (grid0.coords t) 5)) (fun _ => rfl) = srcM (Ring.bk 8 t.val) 5 := srcM_eq (waitOffSrc t 5) _
@[sl_canon] theorem waitPart6 (t : Fin grid0.N) :
    (scM.slice (Rect.unit (s := S2x2048x2048) (k0_off32 (grid0.coords t)) S1x256x2048.size (k0_off32_inb (grid0.coords t))) (fun _ => rfl)).squeeze S256x2048 squeezes_S1x256x2048_S256x2048 = partM (Ring.sl 2 t.val) 6 := partM_eq (waitOffPart t 6) _
@[sl_canon] theorem waitCell6 (t : Fin grid0.N) :
    (cc0_scratch1.slice (Rect.unit (s := S2x8) (k0_off31 (grid0.coords t)) S1x1.size (k0_off31_inb (grid0.coords t)))).squeeze S_ squeezes_S1x1_S_ = cellA (Ring.sl 2 t.val) 6 := cellA_eq (waitOffCell t 6) _
@[sl_canon] theorem waitSrc6 (t : Fin grid0.N) :
    hbM.slice (Rect.unit (s := S16384x2048) (k0_off20 (grid0.coords t) 1536#32) S256x2048.size (k0_off20_inb (grid0.coords t) 6)) (fun _ => rfl) = srcM (Ring.bk 8 t.val) 6 := srcM_eq (waitOffSrc t 6) _
@[sl_canon] theorem waitPart7 (t : Fin grid0.N) :
    (scM.slice (Rect.unit (s := S2x2048x2048) (k0_off34 (grid0.coords t)) S1x256x2048.size (k0_off34_inb (grid0.coords t))) (fun _ => rfl)).squeeze S256x2048 squeezes_S1x256x2048_S256x2048 = partM (Ring.sl 2 t.val) 7 := partM_eq (waitOffPart t 7) _
@[sl_canon] theorem waitCell7 (t : Fin grid0.N) :
    (cc0_scratch1.slice (Rect.unit (s := S2x8) (k0_off33 (grid0.coords t)) S1x1.size (k0_off33_inb (grid0.coords t)))).squeeze S_ squeezes_S1x1_S_ = cellA (Ring.sl 2 t.val) 7 := cellA_eq (waitOffCell t 7) _
@[sl_canon] theorem waitSrc7 (t : Fin grid0.N) :
    hbM.slice (Rect.unit (s := S16384x2048) (k0_off20 (grid0.coords t) 1792#32) S256x2048.size (k0_off20_inb (grid0.coords t) 7)) (fun _ => rfl) = srcM (Ring.bk 8 t.val) 7 := srcM_eq (waitOffSrc t 7) _
instance (priority := high) closedLoad (t : Fin grid0.N) : ClosedOff (k0_off35 (grid0.coords t)) := ⟨![(Ring.sl 2 t.val).val, 0, 0], loadOff t⟩
end Canon

/-! ## What a grid point computes -/

/-- Block `b` of the activations as the body loads it: one slot's 2048 rows. -/
def rowsV (c : Dev nD) (W : BufAt (F := F) c hbM) (b : Fin 8) : Vec F S1x2048x2048 .f32 := fun y =>
  W (ix2 (n0 := 16384) (n1 := 2048) ⟨2048 * b.val + (y 1).val, by have h : (y 1).val < 2048 := (y 1).isLt; have := b.isLt; omega⟩ (y 2))

omit [FloatOps F] in
/-- The body's load of this point's slot, held at block `b`'s rows, reads block `b`. -/
theorem load_rows (c : Dev nD) (W : BufAt (F := F) c hbM) (b : Fin 8) (t : Fin grid0.N) (inb : ∀ a, k0_off35 (grid0.coords t) a + S1x2048x2048.size a ≤ S2x2048x2048.size a) :
    scM.view.readAt (Elt F) (Rect.unit (s := S2x2048x2048) (k0_off35 (grid0.coords t)) S1x2048x2048.size inb).toLoadRect (blockG c W b) = rowsV c W b := by
  funext y
  show blockG c W b ((Rect.unit (s := S2x2048x2048) (k0_off35 (grid0.coords t)) S1x2048x2048.size inb).emb y) = _
  unfold blockG rowsV
  have ho := loadOff t
  have h1 : ((Rect.unit (s := S2x2048x2048) (k0_off35 (grid0.coords t)) S1x2048x2048.size inb).emb y 1).val = (y 1).val := by
    simp [Rect.emb_apply, ho]
  have h2 : (Rect.unit (s := S2x2048x2048) (k0_off35 (grid0.coords t)) S1x2048x2048.size inb).emb y 2 = y 2 := by
    apply Fin.ext; simp [Rect.emb_apply, ho]
  refine congrArg W (funext fun a => ?_)
  fin_cases a
  · exact Fin.ext (congrArg (2048 * b.val + ·) h1)
  · exact h2

omit [FloatOps F] in
/-- The body's load of the weights reads the whole block staged. -/
theorem load_w (arg2 : Memref sig .tc .vmem S16x2048 .f32) (harg2 : arg2.IsWhole) (x0 : Vec F S16x2048 .f32) :
    arg2.view.readAt (Elt F) (Rect.unit (s := S16x2048) ![0, 0] S16x2048.size inb_S16x2048_S16x2048_0_0).toLoadRect (harg2.unread x0) = x0 := by
  rw [View.readAt_full, harg2.read_unread]

/-- From a block of activations and the weights: the logits (transposed), the two chosen experts, their weights. -/
def outLogits (x : Vec F S1x2048x2048 .f32) (w : Vec F S16x2048 .f32) : Vec F S16x2048 .f32 := k0_pay3 x w
def outIdx (x : Vec F S1x2048x2048 .f32) (w : Vec F S16x2048 .f32) : Vec F S2x2048 .i32 :=
  k0_pay1 (iota .tc S16x2048 32 [0] iota_S16x2048_d0_w32) (k0_pay6 x w) (k0_pay9 x w) (k0_pay10 x w)
def outWgt (x : Vec F S1x2048x2048 .f32) (w : Vec F S16x2048 .f32) : Vec F S2x2048 .f32 := k0_pay2 (k0_pay5 x w) (k0_pay8 x w)

end Cert.KernelIdeal.Stream

end
-- ==== Proof.IdealRunA.lean ====
/- The kernel's body run at grid point 0: block 0 and block 1 are started, block 0 is waited for, the gate is computed from it. -/
module

public import proofs.«01_k».proof.Proof.IdealRing

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The first point: block 0 is started and the next block is started, then block 0 is waited for and used. The three output
    blocks end at what the body computes from this block's rows and the weights; the slot read is free again. -/
theorem runA (c : Dev nD) (t : Fin cfg0.N) (arg2 : Memref sig .tc .vmem S16x2048 .f32) (harg2 : arg2.IsWhole) (arg3 : Memref sig .tc .vmem S16x2048 .f32) (harg3 : arg3.IsWhole)
    (arg4 : Memref sig .tc .vmem S2x2048 .i32) (harg4 : arg4.IsWhole) (arg5 : Memref sig .tc .vmem S2x2048 .f32) (harg5 : arg5.IsWhole)
    (hc0 : cond0 (grid0.coords t)) (hc1 : cond1 (grid0.coords t)) (x0 : Vec F S16x2048 .f32) (B : BufAt (F := F) c hbM) (W : Waits sig Unit) (K : PUnit → sProp 𝕄) :
    iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d)
        ∗ slotReady c B (Ring.sl 2 t.val) (Ring.bk 8 t.val) ∗ slotReady c B (Ring.sl 2 (t.val + 1)) (Ring.bk 8 (t.val + 1)) ∗ owes (c : Thread nD τ) 0 W
        ∗ (iprop(owns (c : Thread nD τ) arg2 fullShare x0 ∗ owns (c : Thread nD τ) arg3 fullShare (outLogits (rowsV c B (Ring.bk 8 t.val)) x0)
            ∗ owns (c : Thread nD τ) arg4 fullShare (outIdx (rowsV c B (Ring.bk 8 t.val)) x0) ∗ owns (c : Thread nD τ) arg5 fullShare (outWgt (rowsV c B (Ring.bk 8 t.val)) x0)
            ∗ slotReady c B (Ring.sl 2 t.val) (Ring.bk 8 t.val) ∗ slotFly c B (Ring.sl 2 (t.val + 1)) (Ring.bk 8 (t.val + 1)) ∗ (∃ W', owes (c : Thread nD τ) 0 W')) -∗ K ⟨⟩))
      ⊢ wp frame (wpE (defs₀ (F := F)) Variants.none c none) Set.univ
          (cc0__gate_kernel (grid0.coords t) (Memref.whole main_call0_v0) (Memref.isWhole_whole _) arg2 harg2 arg3 harg3 arg4 harg4 arg5 harg5 scM (Memref.isWhole_whole _) cc0_scratch1) K := by
  haveI : Fact (cond0 (grid0.coords t)) := ⟨hc0⟩
  haveI : Fact (cond1 (grid0.coords t)) := ⟨hc1⟩
  simp only [cc0__gate_kernel_eq_skeleton]; unfold cc0__gate_kernel_skel
  simp only [k0_part1_eq_skeleton, k0_part2_eq_skeleton, k0_part3_eq_skeleton, k0_part4_eq_skeleton, k0_part5_eq_skeleton]
  rw [ready8, ready8]
  unfold owns
  iintro ⟨⟨%f0, %hf0, H0⟩, ⟨%d1, %f1, -, H1⟩, ⟨%d2, %f2, -, H2⟩, ⟨%d3, %f3, -, H3⟩, ⟨⟨Hf0, ⟨%g0, Hd0⟩, Hi0, Hrf0⟩, ⟨Hf1, ⟨%g1, Hd1⟩, Hi1, Hrf1⟩, ⟨Hf2, ⟨%g2, Hd2⟩, Hi2, Hrf2⟩, ⟨Hf3, ⟨%g3, Hd3⟩, Hi3, Hrf3⟩, ⟨Hf4, ⟨%g4, Hd4⟩, Hi4, Hrf4⟩, ⟨Hf5, ⟨%g5, Hd5⟩, Hi5, Hrf5⟩, ⟨Hf6, ⟨%g6, Hd6⟩, Hi6, Hrf6⟩, ⟨Hf7, ⟨%g7, Hd7⟩, Hi7, Hrf7⟩⟩, ⟨⟨Hc0, ⟨%e0, Hs0⟩, Hh0, Hr0⟩, ⟨Hc1, ⟨%e1, Hs1⟩, Hh1, Hr1⟩, ⟨Hc2, ⟨%e2, Hs2⟩, Hh2, Hr2⟩, ⟨Hc3, ⟨%e3, Hs3⟩, Hh3, Hr3⟩, ⟨Hc4, ⟨%e4, Hs4⟩, Hh4, Hr4⟩, ⟨Hc5, ⟨%e5, Hs5⟩, Hh5, Hr5⟩, ⟨Hc6, ⟨%e6, Hs6⟩, Hh6, Hr6⟩, ⟨Hc7, ⟨%e7, Hs7⟩, Hh7, Hr7⟩⟩, HW, Hk⟩
  obtain rfl := harg2.eq_unread hf0
  -- the transfers and the waits, up to the load of the slot
  sl_exec (disch := first | sl_exact hc0 | sl_exact hc1)
  -- the eight parts landed are the slot, held whole for the load
  ihave Hslot := (join8 (F := F) c B (Ring.sl 2 t.val) (Ring.bk 8 t.val) g0 g1 g2 g3 g4 g5 g6 g7) $$ [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  unfold slotP slotM
  sl_exec
  sl_step
  ihave Hparts := (split8 (F := F) c (Ring.sl 2 t.val) (blockG c B (Ring.bk 8 t.val))) $$ [Hslot]
  · unfold slotP slotM; iexact Hslot
  icases Hparts with ⟨Hp0, Hp1, Hp2, Hp3, Hp4, Hp5, Hp6, Hp7⟩
  have hX := load_rows (F := F) c B (Ring.bk 8 t.val) t (k0_off35_inb (grid0.coords t))
  have hw := load_w (F := F) arg2 harg2 x0
  iapply Hk
  isplitl [H0]
  · iexists _; isplitr; · ipureintro; exact harg2.read_unread _
    iexact H0
  isplitl [H1]
  · iexists _; isplitr; swap; iexact H1
    ipureintro
    refine (View.read_writes_full _ _ _ _ _).trans ?_
    rw [hX, hw]; rfl
  isplitl [H2]
  · iexists _; isplitr; swap; iexact H2
    ipureintro
    refine (View.read_writes_full _ _ _ _ _).trans ?_
    rw [← hX]; conv_rhs => rw [← hw]
    rfl
  isplitl [H3]
  · iexists _; isplitr; swap; iexact H3
    ipureintro
    refine (View.read_writes_full _ _ _ _ _).trans ?_
    rw [← hX]; conv_rhs => rw [← hw]
    rfl
  isplitl [Hf0 Hp0 Hi0 Hrf0 Hf1 Hp1 Hi1 Hrf1 Hf2 Hp2 Hi2 Hrf2 Hf3 Hp3 Hi3 Hrf3 Hf4 Hp4 Hi4 Hrf4 Hf5 Hp5 Hi5 Hrf5 Hf6 Hp6 Hi6 Hrf6 Hf7 Hp7 Hi7 Hrf7]
  · skip
    isplitl [Hf0 Hp0 Hi0 Hrf0]
    · isplitl [Hf0]; · iexact Hf0
      isplitl [Hp0]; · iexists _; iexact Hp0
      isplitl [Hi0]; · iexact Hi0
      iexact Hrf0
    isplitl [Hf1 Hp1 Hi1 Hrf1]
    · isplitl [Hf1]; · iexact Hf1
      isplitl [Hp1]; · iexists _; iexact Hp1
      isplitl [Hi1]; · iexact Hi1
      iexact Hrf1
    isplitl [Hf2 Hp2 Hi2 Hrf2]
    · isplitl [Hf2]; · iexact Hf2
      isplitl [Hp2]; · iexists _; iexact Hp2
      isplitl [Hi2]; · iexact Hi2
      iexact Hrf2
    isplitl [Hf3 Hp3 Hi3 Hrf3]
    · isplitl [Hf3]; · iexact Hf3
      isplitl [Hp3]; · iexists _; iexact Hp3
      isplitl [Hi3]; · iexact Hi3
      iexact Hrf3
    isplitl [Hf4 Hp4 Hi4 Hrf4]
    · isplitl [Hf4]; · iexact Hf4
      isplitl [Hp4]; · iexists _; iexact Hp4
      isplitl [Hi4]; · iexact Hi4
      iexact Hrf4
    isplitl [Hf5 Hp5 Hi5 Hrf5]
    · isplitl [Hf5]; · iexact Hf5
      isplitl [Hp5]; · iexists _; iexact Hp5
      isplitl [Hi5]; · iexact Hi5
      iexact Hrf5
    isplitl [Hf6 Hp6 Hi6 Hrf6]
    · isplitl [Hf6]; · iexact Hf6
      isplitl [Hp6]; · iexists _; iexact Hp6
      isplitl [Hi6]; · iexact Hi6
      iexact Hrf6
    isplitl [Hf7]; · iexact Hf7
    isplitl [Hp7]; · iexists _; iexact Hp7
    isplitl [Hi7]; · iexact Hi7
    iexact Hrf7
  isplitl [Hc0 Hr0 Hc1 Hr1 Hc2 Hr2 Hc3 Hr3 Hc4 Hr4 Hc5 Hr5 Hc6 Hr6 Hc7 Hr7]
  · rw [fly8]
    isplitl [Hc0 Hr0]
    · isplitl [Hc0]; · iexists _; iexact Hc0
      iexact Hr0
    isplitl [Hc1 Hr1]
    · isplitl [Hc1]; · iexists _; iexact Hc1
      iexact Hr1
    isplitl [Hc2 Hr2]
    · isplitl [Hc2]; · iexists _; iexact Hc2
      iexact Hr2
    isplitl [Hc3 Hr3]
    · isplitl [Hc3]; · iexists _; iexact Hc3
      iexact Hr3
    isplitl [Hc4 Hr4]
    · isplitl [Hc4]; · iexists _; iexact Hc4
      iexact Hr4
    isplitl [Hc5 Hr5]
    · isplitl [Hc5]; · iexists _; iexact Hc5
      iexact Hr5
    isplitl [Hc6 Hr6]
    · isplitl [Hc6]; · iexists _; iexact Hc6
      iexact Hr6
    isplitl [Hc7]; · iexists _; iexact Hc7
    iexact Hr7
  iexists _; iexact HW

end Cert.KernelIdeal.Stream

end
-- ==== Proof.IdealRunB.lean ====
/- The kernel's body run at grid points 1 … 6: the next block is started, this one is waited for, the gate is computed from it. -/
module

public import proofs.«01_k».proof.Proof.IdealRing

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- A middle point: the next block is started, this one (in flight) is waited for and used. The three output
    blocks end at what the body computes from this block's rows and the weights; the slot read is free again. -/
theorem runB (c : Dev nD) (t : Fin cfg0.N) (arg2 : Memref sig .tc .vmem S16x2048 .f32) (harg2 : arg2.IsWhole) (arg3 : Memref sig .tc .vmem S16x2048 .f32) (harg3 : arg3.IsWhole)
    (arg4 : Memref sig .tc .vmem S2x2048 .i32) (harg4 : arg4.IsWhole) (arg5 : Memref sig .tc .vmem S2x2048 .f32) (harg5 : arg5.IsWhole)
    (hc0 : ¬cond0 (grid0.coords t)) (hc1 : cond1 (grid0.coords t)) (x0 : Vec F S16x2048 .f32) (B : BufAt (F := F) c hbM) (W : Waits sig Unit) (K : PUnit → sProp 𝕄) :
    iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d)
        ∗ slotFly c B (Ring.sl 2 t.val) (Ring.bk 8 t.val) ∗ slotReady c B (Ring.sl 2 (t.val + 1)) (Ring.bk 8 (t.val + 1)) ∗ owes (c : Thread nD τ) 0 W
        ∗ (iprop(owns (c : Thread nD τ) arg2 fullShare x0 ∗ owns (c : Thread nD τ) arg3 fullShare (outLogits (rowsV c B (Ring.bk 8 t.val)) x0)
            ∗ owns (c : Thread nD τ) arg4 fullShare (outIdx (rowsV c B (Ring.bk 8 t.val)) x0) ∗ owns (c : Thread nD τ) arg5 fullShare (outWgt (rowsV c B (Ring.bk 8 t.val)) x0)
            ∗ slotReady c B (Ring.sl 2 t.val) (Ring.bk 8 t.val) ∗ slotFly c B (Ring.sl 2 (t.val + 1)) (Ring.bk 8 (t.val + 1)) ∗ (∃ W', owes (c : Thread nD τ) 0 W')) -∗ K ⟨⟩))
      ⊢ wp frame (wpE (defs₀ (F := F)) Variants.none c none) Set.univ
          (cc0__gate_kernel (grid0.coords t) (Memref.whole main_call0_v0) (Memref.isWhole_whole _) arg2 harg2 arg3 harg3 arg4 harg4 arg5 harg5 scM (Memref.isWhole_whole _) cc0_scratch1) K := by
  haveI : Fact (¬cond0 (grid0.coords t)) := ⟨hc0⟩
  haveI : Fact (cond1 (grid0.coords t)) := ⟨hc1⟩
  simp only [cc0__gate_kernel_eq_skeleton]; unfold cc0__gate_kernel_skel
  simp only [k0_part1_eq_skeleton, k0_part2_eq_skeleton, k0_part3_eq_skeleton, k0_part4_eq_skeleton, k0_part5_eq_skeleton]
  rw [fly8, ready8]
  unfold owns
  iintro ⟨⟨%f0, %hf0, H0⟩, ⟨%d1, %f1, -, H1⟩, ⟨%d2, %f2, -, H2⟩, ⟨%d3, %f3, -, H3⟩, ⟨⟨⟨%g0, Hf0⟩, Hrf0⟩, ⟨⟨%g1, Hf1⟩, Hrf1⟩, ⟨⟨%g2, Hf2⟩, Hrf2⟩, ⟨⟨%g3, Hf3⟩, Hrf3⟩, ⟨⟨%g4, Hf4⟩, Hrf4⟩, ⟨⟨%g5, Hf5⟩, Hrf5⟩, ⟨⟨%g6, Hf6⟩, Hrf6⟩, ⟨⟨%g7, Hf7⟩, Hrf7⟩⟩, ⟨⟨Hc0, ⟨%e0, Hs0⟩, Hh0, Hr0⟩, ⟨Hc1, ⟨%e1, Hs1⟩, Hh1, Hr1⟩, ⟨Hc2, ⟨%e2, Hs2⟩, Hh2, Hr2⟩, ⟨Hc3, ⟨%e3, Hs3⟩, Hh3, Hr3⟩, ⟨Hc4, ⟨%e4, Hs4⟩, Hh4, Hr4⟩, ⟨Hc5, ⟨%e5, Hs5⟩, Hh5, Hr5⟩, ⟨Hc6, ⟨%e6, Hs6⟩, Hh6, Hr6⟩, ⟨Hc7, ⟨%e7, Hs7⟩, Hh7, Hr7⟩⟩, HW, Hk⟩
  obtain rfl := harg2.eq_unread hf0
  -- the transfers and the waits, up to the load of the slot
  sl_exec (disch := first | sl_exact hc0 | sl_exact hc1)
  -- the eight parts landed are the slot, held whole for the load
  ihave Hslot := (join8 (F := F) c B (Ring.sl 2 t.val) (Ring.bk 8 t.val) g0 g1 g2 g3 g4 g5 g6 g7) $$ [Hf0_dst Hf1_dst Hf2_dst Hf3_dst Hf4_dst Hf5_dst Hf6_dst Hf7_dst]
  · isplitl [Hf0_dst]; · iexact Hf0_dst
    isplitl [Hf1_dst]; · iexact Hf1_dst
    isplitl [Hf2_dst]; · iexact Hf2_dst
    isplitl [Hf3_dst]; · iexact Hf3_dst
    isplitl [Hf4_dst]; · iexact Hf4_dst
    isplitl [Hf5_dst]; · iexact Hf5_dst
    isplitl [Hf6_dst]; · iexact Hf6_dst
    iexact Hf7_dst
  unfold slotP slotM
  sl_exec
  sl_step
  ihave Hparts := (split8 (F := F) c (Ring.sl 2 t.val) (blockG c B (Ring.bk 8 t.val))) $$ [Hslot]
  · unfold slotP slotM; iexact Hslot
  icases Hparts with ⟨Hp0, Hp1, Hp2, Hp3, Hp4, Hp5, Hp6, Hp7⟩
  have hX := load_rows (F := F) c B (Ring.bk 8 t.val) t (k0_off35_inb (grid0.coords t))
  have hw := load_w (F := F) arg2 harg2 x0
  iapply Hk
  isplitl [H0]
  · iexists _; isplitr; · ipureintro; exact harg2.read_unread _
    iexact H0
  isplitl [H1]
  · iexists _; isplitr; swap; iexact H1
    ipureintro
    refine (View.read_writes_full _ _ _ _ _).trans ?_
    rw [hX, hw]; rfl
  isplitl [H2]
  · iexists _; isplitr; swap; iexact H2
    ipureintro
    refine (View.read_writes_full _ _ _ _ _).trans ?_
    rw [← hX]; conv_rhs => rw [← hw]
    rfl
  isplitl [H3]
  · iexists _; isplitr; swap; iexact H3
    ipureintro
    refine (View.read_writes_full _ _ _ _ _).trans ?_
    rw [← hX]; conv_rhs => rw [← hw]
    rfl
  isplitl [Hf0 Hp0 Hf0_src Hrf0 Hf1 Hp1 Hf1_src Hrf1 Hf2 Hp2 Hf2_src Hrf2 Hf3 Hp3 Hf3_src Hrf3 Hf4 Hp4 Hf4_src Hrf4 Hf5 Hp5 Hf5_src Hrf5 Hf6 Hp6 Hf6_src Hrf6 Hf7 Hp7 Hf7_src Hrf7]
  · rw [ready8]
    isplitl [Hf0 Hp0 Hf0_src Hrf0]
    · isplitl [Hf0]; · iexact Hf0
      isplitl [Hp0]; · iexists _; iexact Hp0
      isplitl [Hf0_src]; · iexact Hf0_src
      iexact Hrf0
    isplitl [Hf1 Hp1 Hf1_src Hrf1]
    · isplitl [Hf1]; · iexact Hf1
      isplitl [Hp1]; · iexists _; iexact Hp1
      isplitl [Hf1_src]; · iexact Hf1_src
      iexact Hrf1
    isplitl [Hf2 Hp2 Hf2_src Hrf2]
    · isplitl [Hf2]; · iexact Hf2
      isplitl [Hp2]; · iexists _; iexact Hp2
      isplitl [Hf2_src]; · iexact Hf2_src
      iexact Hrf2
    isplitl [Hf3 Hp3 Hf3_src Hrf3]
    · isplitl [Hf3]; · iexact Hf3
      isplitl [Hp3]; · iexists _; iexact Hp3
      isplitl [Hf3_src]; · iexact Hf3_src
      iexact Hrf3
    isplitl [Hf4 Hp4 Hf4_src Hrf4]
    · isplitl [Hf4]; · iexact Hf4
      isplitl [Hp4]; · iexists _; iexact Hp4
      isplitl [Hf4_src]; · iexact Hf4_src
      iexact Hrf4
    isplitl [Hf5 Hp5 Hf5_src Hrf5]
    · isplitl [Hf5]; · iexact Hf5
      isplitl [Hp5]; · iexists _; iexact Hp5
      isplitl [Hf5_src]; · iexact Hf5_src
      iexact Hrf5
    isplitl [Hf6 Hp6 Hf6_src Hrf6]
    · isplitl [Hf6]; · iexact Hf6
      isplitl [Hp6]; · iexists _; iexact Hp6
      isplitl [Hf6_src]; · iexact Hf6_src
      iexact Hrf6
    isplitl [Hf7]; · iexact Hf7
    isplitl [Hp7]; · iexists _; iexact Hp7
    isplitl [Hf7_src]; · iexact Hf7_src
    iexact Hrf7
  isplitl [Hc0 Hr0 Hc1 Hr1 Hc2 Hr2 Hc3 Hr3 Hc4 Hr4 Hc5 Hr5 Hc6 Hr6 Hc7 Hr7]
  · rw [fly8]
    isplitl [Hc0 Hr0]
    · isplitl [Hc0]; · iexists _; iexact Hc0
      iexact Hr0
    isplitl [Hc1 Hr1]
    · isplitl [Hc1]; · iexists _; iexact Hc1
      iexact Hr1
    isplitl [Hc2 Hr2]
    · isplitl [Hc2]; · iexists _; iexact Hc2
      iexact Hr2
    isplitl [Hc3 Hr3]
    · isplitl [Hc3]; · iexists _; iexact Hc3
      iexact Hr3
    isplitl [Hc4 Hr4]
    · isplitl [Hc4]; · iexists _; iexact Hc4
      iexact Hr4
    isplitl [Hc5 Hr5]
    · isplitl [Hc5]; · iexists _; iexact Hc5
      iexact Hr5
    isplitl [Hc6 Hr6]
    · isplitl [Hc6]; · iexists _; iexact Hc6
      iexact Hr6
    isplitl [Hc7]; · iexists _; iexact Hc7
    iexact Hr7
  iexists _; iexact HW

end Cert.KernelIdeal.Stream

end
-- ==== Proof.IdealRunC.lean ====
/- The kernel's body run at grid point 7: this block is waited for, the gate is computed from it. -/
module

public import proofs.«01_k».proof.Proof.IdealRing

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The last point: this block (in flight) is waited for and used. The three output
    blocks end at what the body computes from this block's rows and the weights; the slot read is free again. -/
theorem runC (c : Dev nD) (t : Fin cfg0.N) (arg2 : Memref sig .tc .vmem S16x2048 .f32) (harg2 : arg2.IsWhole) (arg3 : Memref sig .tc .vmem S16x2048 .f32) (harg3 : arg3.IsWhole)
    (arg4 : Memref sig .tc .vmem S2x2048 .i32) (harg4 : arg4.IsWhole) (arg5 : Memref sig .tc .vmem S2x2048 .f32) (harg5 : arg5.IsWhole)
    (hc0 : ¬cond0 (grid0.coords t)) (hc1 : ¬cond1 (grid0.coords t)) (x0 : Vec F S16x2048 .f32) (B : BufAt (F := F) c hbM) (W : Waits sig Unit) (K : PUnit → sProp 𝕄) :
    iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d)
        ∗ slotFly c B (Ring.sl 2 t.val) (Ring.bk 8 t.val) ∗ owes (c : Thread nD τ) 0 W
        ∗ (iprop(owns (c : Thread nD τ) arg2 fullShare x0 ∗ owns (c : Thread nD τ) arg3 fullShare (outLogits (rowsV c B (Ring.bk 8 t.val)) x0)
            ∗ owns (c : Thread nD τ) arg4 fullShare (outIdx (rowsV c B (Ring.bk 8 t.val)) x0) ∗ owns (c : Thread nD τ) arg5 fullShare (outWgt (rowsV c B (Ring.bk 8 t.val)) x0)
            ∗ slotReady c B (Ring.sl 2 t.val) (Ring.bk 8 t.val) ∗ (∃ W', owes (c : Thread nD τ) 0 W')) -∗ K ⟨⟩))
      ⊢ wp frame (wpE (defs₀ (F := F)) Variants.none c none) Set.univ
          (cc0__gate_kernel (grid0.coords t) (Memref.whole main_call0_v0) (Memref.isWhole_whole _) arg2 harg2 arg3 harg3 arg4 harg4 arg5 harg5 scM (Memref.isWhole_whole _) cc0_scratch1) K := by
  haveI : Fact (¬cond0 (grid0.coords t)) := ⟨hc0⟩
  haveI : Fact (¬cond1 (grid0.coords t)) := ⟨hc1⟩
  simp only [cc0__gate_kernel_eq_skeleton]; unfold cc0__gate_kernel_skel
  simp only [k0_part1_eq_skeleton, k0_part2_eq_skeleton, k0_part3_eq_skeleton, k0_part4_eq_skeleton, k0_part5_eq_skeleton]
  rw [fly8]
  unfold owns
  iintro ⟨⟨%f0, %hf0, H0⟩, ⟨%d1, %f1, -, H1⟩, ⟨%d2, %f2, -, H2⟩, ⟨%d3, %f3, -, H3⟩, ⟨⟨⟨%g0, Hf0⟩, Hrf0⟩, ⟨⟨%g1, Hf1⟩, Hrf1⟩, ⟨⟨%g2, Hf2⟩, Hrf2⟩, ⟨⟨%g3, Hf3⟩, Hrf3⟩, ⟨⟨%g4, Hf4⟩, Hrf4⟩, ⟨⟨%g5, Hf5⟩, Hrf5⟩, ⟨⟨%g6, Hf6⟩, Hrf6⟩, ⟨⟨%g7, Hf7⟩, Hrf7⟩⟩, HW, Hk⟩
  obtain rfl := harg2.eq_unread hf0
  -- the transfers and the waits, up to the load of the slot
  sl_exec (disch := first | sl_exact hc0 | sl_exact hc1)
  -- the eight parts landed are the slot, held whole for the load
  ihave Hslot := (join8 (F := F) c B (Ring.sl 2 t.val) (Ring.bk 8 t.val) g0 g1 g2 g3 g4 g5 g6 g7) $$ [Hf0_dst Hf1_dst Hf2_dst Hf3_dst Hf4_dst Hf5_dst Hf6_dst Hf7_dst]
  · isplitl [Hf0_dst]; · iexact Hf0_dst
    isplitl [Hf1_dst]; · iexact Hf1_dst
    isplitl [Hf2_dst]; · iexact Hf2_dst
    isplitl [Hf3_dst]; · iexact Hf3_dst
    isplitl [Hf4_dst]; · iexact Hf4_dst
    isplitl [Hf5_dst]; · iexact Hf5_dst
    isplitl [Hf6_dst]; · iexact Hf6_dst
    iexact Hf7_dst
  unfold slotP slotM
  sl_exec
  sl_step
  ihave Hparts := (split8 (F := F) c (Ring.sl 2 t.val) (blockG c B (Ring.bk 8 t.val))) $$ [Hslot]
  · unfold slotP slotM; iexact Hslot
  icases Hparts with ⟨Hp0, Hp1, Hp2, Hp3, Hp4, Hp5, Hp6, Hp7⟩
  have hX := load_rows (F := F) c B (Ring.bk 8 t.val) t (k0_off35_inb (grid0.coords t))
  have hw := load_w (F := F) arg2 harg2 x0
  iapply Hk
  isplitl [H0]
  · iexists _; isplitr; · ipureintro; exact harg2.read_unread _
    iexact H0
  isplitl [H1]
  · iexists _; isplitr; swap; iexact H1
    ipureintro
    refine (View.read_writes_full _ _ _ _ _).trans ?_
    rw [hX, hw]; rfl
  isplitl [H2]
  · iexists _; isplitr; swap; iexact H2
    ipureintro
    refine (View.read_writes_full _ _ _ _ _).trans ?_
    rw [← hX]; conv_rhs => rw [← hw]
    rfl
  isplitl [H3]
  · iexists _; isplitr; swap; iexact H3
    ipureintro
    refine (View.read_writes_full _ _ _ _ _).trans ?_
    rw [← hX]; conv_rhs => rw [← hw]
    rfl
  isplitl [Hf0 Hp0 Hf0_src Hrf0 Hf1 Hp1 Hf1_src Hrf1 Hf2 Hp2 Hf2_src Hrf2 Hf3 Hp3 Hf3_src Hrf3 Hf4 Hp4 Hf4_src Hrf4 Hf5 Hp5 Hf5_src Hrf5 Hf6 Hp6 Hf6_src Hrf6 Hf7 Hp7 Hf7_src Hrf7]
  · rw [ready8]
    isplitl [Hf0 Hp0 Hf0_src Hrf0]
    · isplitl [Hf0]; · iexact Hf0
      isplitl [Hp0]; · iexists _; iexact Hp0
      isplitl [Hf0_src]; · iexact Hf0_src
      iexact Hrf0
    isplitl [Hf1 Hp1 Hf1_src Hrf1]
    · isplitl [Hf1]; · iexact Hf1
      isplitl [Hp1]; · iexists _; iexact Hp1
      isplitl [Hf1_src]; · iexact Hf1_src
      iexact Hrf1
    isplitl [Hf2 Hp2 Hf2_src Hrf2]
    · isplitl [Hf2]; · iexact Hf2
      isplitl [Hp2]; · iexists _; iexact Hp2
      isplitl [Hf2_src]; · iexact Hf2_src
      iexact Hrf2
    isplitl [Hf3 Hp3 Hf3_src Hrf3]
    · isplitl [Hf3]; · iexact Hf3
      isplitl [Hp3]; · iexists _; iexact Hp3
      isplitl [Hf3_src]; · iexact Hf3_src
      iexact Hrf3
    isplitl [Hf4 Hp4 Hf4_src Hrf4]
    · isplitl [Hf4]; · iexact Hf4
      isplitl [Hp4]; · iexists _; iexact Hp4
      isplitl [Hf4_src]; · iexact Hf4_src
      iexact Hrf4
    isplitl [Hf5 Hp5 Hf5_src Hrf5]
    · isplitl [Hf5]; · iexact Hf5
      isplitl [Hp5]; · iexists _; iexact Hp5
      isplitl [Hf5_src]; · iexact Hf5_src
      iexact Hrf5
    isplitl [Hf6 Hp6 Hf6_src Hrf6]
    · isplitl [Hf6]; · iexact Hf6
      isplitl [Hp6]; · iexists _; iexact Hp6
      isplitl [Hf6_src]; · iexact Hf6_src
      iexact Hrf6
    isplitl [Hf7]; · iexact Hf7
    isplitl [Hp7]; · iexists _; iexact Hp7
    isplitl [Hf7_src]; · iexact Hf7_src
    iexact Hrf7
  iexists _; iexact HW

end Cert.KernelIdeal.Stream

end
-- ==== Proof.IdealFrame.lean ====
/- The kernel's whole run, at any values: what the pipeline's windows hold at every grid point, the double buffer's state
   as the invariant between points, the body's triple at every point from the three runs, and from them the program's run:
   it terminates, its arguments end unchanged, every semaphore ends at zero, and every output array ends at what the
   points left in it. -/
module

public import proofs.«01_k».proof.Proof.IdealRunA
public import proofs.«01_k».proof.Proof.IdealRunB
public import proofs.«01_k».proof.Proof.IdealRunC

@[expose] public section

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the pipelined region -/

/-- The host operations before the region, the region, the host operations after it. -/
theorem main_split : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The activations' argument is written by no host operation and is no window's array: it ends as launched. -/
theorem arg0_end (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall,
        StableHlo.unary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The weights' window holds the weights at every point. -/
theorem weights_before {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the launch hands the kernel: the double buffer, its semaphores, the activations -/

/-- The kernel's own semaphores, indexed by slot and part. -/
abbrev osem0 : Fin 2 × Fin 8 → SemLoc sig := fun p => cellR p.1 p.2
theorem ownSemFacts0 : Pipeline.OwnSemFacts spec0 osem0 := by decide +kernel
/-- The buffer the kernel's own transfers read. -/
def H0 : Finset (Ref sig .tc) := {main_call0_v0}
theorem H0_sub : H0 ⊆ Pipeline.restRefs sig spec0 := by decide
/-- The host operations after the region do not touch it. -/
theorem tail_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut Pipeline.Prefetch.none spec0 H0 op ((List.forall_iff_forall_mem.mp hostOps1_sub) op hop) (fun j => j.elim0) ?_
  simp only [hostOps1, List.mem_cons, List.mem_nil_iff, or_false] at hop
  rcases hop with rfl | rfl | rfl
  all_goals intro b hb; simp only [H0, Finset.mem_singleton] at hb; subst hb
  all_goals simp only [StableHlo.unary_bufs, Finset.mem_insert, Finset.mem_singleton, not_or]
  all_goals and_intros <;> exact StableHlo.devRef_ne_of_ne (by decide)

section InOut
variable (c : Dev nD) (W : BufAt (F := F) c hbM)

omit [FloatOps F] in
/-- Sixteen conjuncts as two slots of eight. -/
theorem bigSep16 (P : ℕ → sProp 𝕄) :
    bigSep Finset.univ (fun i : Fin 16 => P i.val) = bigSep Finset.univ (fun s : Fin 2 => bigSep Finset.univ fun j : Fin 8 => P (8 * s.val + j.val)) := by
  have h := BI.bigSep_map (finProdFinEquiv (m := 2) (n := 8)).toEmbedding (s := Finset.univ) (Φ := fun i : Fin 16 => P i.val)
  rw [Finset.map_univ_equiv] at h
  rw [h, BI.bigSep_univ_prod]
  refine BI.bigSep_congr fun s _ => BI.bigSep_congr fun j _ => ?_
  show P ((finProdFinEquiv (s, j)).val) = _
  rw [show (finProdFinEquiv (s, j)).val = 8 * s.val + j.val by simp [finProdFinEquiv]; omega]

/-- What remains of the activations once the sixteen parts have their shares. -/
def keptP : sProp 𝕄 := ((c : Thread nD τ).loc main_call0_v0) ↦[Finset.univ]{Transfers.shareDrop fullShare 16} W

omit [FloatOps F] in
/-- The activations held whole are that remainder and the sixteen parts' copies. -/
theorem operand_split : (((c : Thread nD τ).loc main_call0_v0) ↦{fullShare} W : sProp 𝕄)
    ⊣⊢ iprop(keptP c W ∗ bigSep Finset.univ (wholeP (F := F) c W 0) ∗ bigSep Finset.univ (wholeP (F := F) c W 1)) := by
  have h := Transfers.pointsTo_toks (Ix := Unit) (Name := ℕ) (U := Pipeline.UD sig nD τ) (Lvl := ℕ) (ℓ := (c : Thread nD τ).loc main_call0_v0) (S := Finset.univ) (f := W) fullShare 16
  rw [bigSep16 (F := F) (fun i => ((c : Thread nD τ).loc main_call0_v0) ↦[Finset.univ]{Transfers.shareTokN fullShare i} W), Ring.bigSep_fin2] at h
  exact h

omit [FloatOps F] in
theorem slotP_eq (s : Fin 2) (g : BufAt (F := F) c scM) : slotP (F := F) c s g = (((c : Thread nD τ).loc cc0_scratch0) ↦[slotSet s]{fullShare} g : sProp 𝕄) := by
  unfold slotP; rw [slotSet_eq]; rfl

omit [FloatOps F] in
/-- A slot held at anything is its parts each held at anything, and back. -/
theorem slot_parts (s : Fin 2) : iprop(∃ g, slotP (F := F) c s g) ⊢ (bigSep Finset.univ (fun j => iprop(∃ f, partP (F := F) c s j f)) : sProp 𝕄) := by
  refine BI.BIClass.exists_elim fun g => ?_
  rw [← parts_slot (F := F) c s g]
  refine BI.bigSep_mono fun j _ => ?_
  show partP (F := F) c s j g ⊢ iprop(∃ f, partP (F := F) c s j f)
  iintro H; iexists g; iexact H
theorem parts_slot_any (s : Fin 2) : (bigSep Finset.univ (fun j => iprop(∃ f, partP (F := F) c s j f)) : sProp 𝕄) ⊢ iprop(∃ g, slotP (F := F) c s g) := by
  have e : ∀ (j : Fin 8) (g : BufAt (F := F) c scM), partP (F := F) c s j g = (((c : Thread nD τ).loc cc0_scratch0) ↦[partSet s j]{fullShare} g : sProp 𝕄) := fun j g => by
    unfold partP; rw [partSet_eq]; rfl
  haveI : ∀ j : Fin 8, Nonempty (BufAt (F := F) c (partM s j)) := fun j => ⟨fun _ => Classical.choice (Elt.nonempty F _)⟩
  have h := BI.bigSep_exists_pi (Y := fun j : Fin 8 => BufAt (F := F) c (partM s j)) Finset.univ (fun (j : Fin 8) f => partP (F := F) c s j f)
  refine BIBase.Entails.trans h (BI.BIClass.exists_elim fun fs => ?_)
  rw [show (fun j : Fin 8 => partP (F := F) c s j (fs j)) = fun j => (((c : Thread nD τ).loc cc0_scratch0) ↦[partSet s j]{fullShare} fs j : sProp 𝕄) from funext fun j => e j (fs j)]
  show bigSep Finset.univ (fun j : Fin 8 => (((c : Thread nD τ).loc cc0_scratch0) ↦[partSet s j]{fullShare} fs j : sProp 𝕄)) ⊢ iprop(∃ g, slotP (F := F) c s g)
  iintro H
  ihave H := (pointsTo_biUnion_join (U := Pipeline.UD sig nD τ) (ℓ := (c : Thread nD τ).loc cc0_scratch0) Finset.univ (partSet s) fs (fs 0) (fun j _ j' _ h => partSet_disjoint s j j' h)) $$ H
  icases H with ⟨%g, -, H⟩
  rw [partSet_cover]
  iexists g
  rw [slotP_eq]
  iexact H
omit [FloatOps F] in
theorem scratch_split : iprop(∃ d, owns (c : Thread nD τ) scM fullShare d)
    ⊢ (iprop(bigSep Finset.univ (fun j => iprop(∃ f, partP (F := F) c 0 j f)) ∗ bigSep Finset.univ (fun j => iprop(∃ f, partP (F := F) c 1 j f))) : sProp 𝕄) := by
  simp only [scM, owns_whole]
  refine (Ring.slots2_split (U := Pipeline.UD sig nD τ) (ℓ := (c : Thread nD τ).loc cc0_scratch0) (q := fullShare) slotSet slotSet_disjoint slotSet_cover
    (slotP (F := F) c 0) (slotP c 1) (slotP_eq c 0) (slotP_eq c 1)).trans ?_
  iintro ⟨H0, H1⟩
  isplitl [H0]
  · iapply (slot_parts (F := F) c 0); iexact H0
  · iapply (slot_parts (F := F) c 1); iexact H1
theorem scratch_join : (iprop(bigSep Finset.univ (fun j => iprop(∃ f, partP (F := F) c 0 j f)) ∗ bigSep Finset.univ (fun j => iprop(∃ f, partP (F := F) c 1 j f))) : sProp 𝕄)
    ⊢ iprop(∃ d, owns (c : Thread nD τ) scM fullShare d) := by
  simp only [scM, owns_whole]
  refine BIBase.Entails.trans ?_ (Ring.slots2_join (U := Pipeline.UD sig nD τ) (ℓ := (c : Thread nD τ).loc cc0_scratch0) (q := fullShare) slotSet slotSet_disjoint slotSet_cover
    (slotP (F := F) c 0) (slotP c 1) (slotP_eq c 0) (slotP_eq c 1))
  iintro ⟨H0, H1⟩
  isplitl [H0]
  · iapply (parts_slot_any (F := F) c 0); iexact H0
  · iapply (parts_slot_any (F := F) c 1); iexact H1

omit [FloatOps F] in
/-- A free slot: its semaphores, its parts, its copies of the activations. -/
theorem slotFree_eq (s : Fin 2) : slotFree (F := F) c W s
    = iprop(bigSep Finset.univ (cellP (F := F) c s) ∗ bigSep Finset.univ (fun j => iprop(∃ f, partP (F := F) c s j f)) ∗ bigSep Finset.univ (wholeP (F := F) c W s)) := by
  unfold slotFree freeP
  exact (BI.bigSep_sep _ _ _).trans (congrArg _ (BI.bigSep_sep _ _ _))

/-- What the launch hands the region beside the windows. -/
theorem handed_eq :
    (Pipeline.ΦD osem0 spec0 H0 (V m) c : sProp 𝕄)
      = iprop(iprop(∃ d, owns (c : Thread nD τ) scM fullShare d) ∗ (∃ r, prngReg c r)
          ∗ iprop(bigSep Finset.univ (cellP (F := F) c 0) ∗ bigSep Finset.univ (cellP (F := F) c 1)) ∗ ((c : Thread nD τ).loc main_call0_v0) ↦{fullShare} V m c main_call0_v0) := by
  rw [Pipeline.ΦD_eq, scopedRest0_eq]
  have h1 : (Pipeline.ownSems0 (Ix := Unit) (Name := ℕ) (U := Pipeline.UD sig nD τ) (Lvl := ℕ) (Val := Elt F) (τ := τ) osem0 c : sProp 𝕄)
      = iprop(bigSep Finset.univ (cellP (F := F) c 0) ∗ bigSep Finset.univ (cellP (F := F) c 1)) := by
    unfold Pipeline.ownSems0; rw [BI.bigSep_univ_prod, Ring.bigSep_fin2]
  have h2 : (bigSep H0 (fun b => ((c : Thread nD τ).loc b) ↦{fullShare} V m c b) : sProp 𝕄) = ((c : Thread nD τ).loc main_call0_v0) ↦{fullShare} V m c main_call0_v0 := by
    rw [BI.bigSep_eq_bigSepL_of_eq [main_call0_v0] (by decide) (by decide)]; rfl
  rw [h1, h2]; simp only [scM, owns_whole]; try rfl
end InOut

/-! ## The pipeline's proof data -/

/-- Before grid point `k`: the random-number register, the activations' remainder, the double buffer. -/
def PhiR (c : Dev nD) (k : ℕ) : sProp 𝕄 := iprop((∃ r, prngReg c r) ∗ keptP c (V m c main_call0_v0) ∗ ringAt c (V m c main_call0_v0) k)

/-- At point `t` the weights' window holds the weights, and the three outputs' windows end at what the body computes from
    block `t` of the activations and the weights. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outLogits (rowsV c (V m c main_call0_v0) (Ring.bk 8 t.val)) (iblk m c 0 t)
    | ⟨2, _⟩ => outIdx (rowsV c (V m c main_call0_v0) (Ring.bk 8 t.val)) (iblk m c 0 t)
    | ⟨3, _⟩ => outWgt (rowsV c (V m c main_call0_v0) (Ring.bk 8 t.val)) (iblk m c 0 t)
  Φ t := PhiR m c t.val
  q _ := fullShare
  owed _ := 0

theorem dats_A (c : Dev nD) (w : Fin cfg0.W) : (dats m 0 c).A w = V m c (Pipeline.arrRef spec0 w) := by dsimp only [dats]
theorem PhiR_start (c : Dev nD) (t : Fin cfg0.N) : (dats m 0 c).Φ t.castSucc = PhiR m c t.val := by
  dsimp only [dats]; simp only [Fin.coe_castSucc]
theorem PhiR_end (c : Dev nD) (t : Fin cfg0.N) : (dats m 0 c).Φ t.succ = PhiR m c (t.val + 1) := by
  dsimp only [dats]; simp only [Fin.val_succ]
theorem after_w (c : Dev nD) (t : Fin cfg0.N) : (dats m 0 c).after 0 t = iblk m c 0 t := by dsimp only [dats]
theorem after_logits (c : Dev nD) (t : Fin cfg0.N) :
    (dats m 0 c).after 1 t = outLogits (rowsV c (V m c main_call0_v0) (Ring.bk 8 t.val)) (iblk m c 0 t) := by dsimp only [dats]
theorem after_idx (c : Dev nD) (t : Fin cfg0.N) :
    (dats m 0 c).after 2 t = outIdx (rowsV c (V m c main_call0_v0) (Ring.bk 8 t.val)) (iblk m c 0 t) := by dsimp only [dats]
theorem after_wgt (c : Dev nD) (t : Fin cfg0.N) :
    (dats m 0 c).after 3 t = outWgt (rowsV c (V m c main_call0_v0) (Ring.bk 8 t.val)) (iblk m c 0 t) := by dsimp only [dats]
theorem before_w (c : Dev nD) (t : Fin cfg0.N) (d) : (dats m 0 c).before 0 t d = iblk m c 0 t :=
  weights_before m (dats m 0 c) (dats_A m c 0) (after_w m c) t d

/-! ## The body at every point -/

/-- The staging memrefs at point `t`. -/
abbrev ms0 (t : Fin cfg0.N) : Memref sig .tc .vmem S16x2048 .f32 := win0_0.stage (cfg0.slots t 0)
abbrev ms1 (t : Fin cfg0.N) : Memref sig .tc .vmem S16x2048 .f32 := win0_1.stage (cfg0.slots t 1)
abbrev ms2 (t : Fin cfg0.N) : Memref sig .tc .vmem S2x2048 .i32 := win0_2.stage (cfg0.slots t 2)
abbrev ms3 (t : Fin cfg0.N) : Memref sig .tc .vmem S2x2048 .f32 := win0_3.stage (cfg0.slots t 3)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

theorem sl_two (k : ℕ) : Ring.sl 2 (k + 1 + 1) = Ring.sl 2 k := Fin.ext (Nat.add_mod_right k 2)

set_option maxHeartbeats 1200000 in
/-- The body's triple at any point: the first point's run, a middle point's, or the last one's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_w]
  rw [after_w, after_logits, after_idx, after_wgt, PhiR_start m c t, PhiR_end m c t]
  unfold Dat.owesAt Pipeline.owesWithin
  rw [show (dats m 0 c).owed t.castSucc = 0 from rfl, show (dats m 0 c).owed t.succ = 0 from rfl]
  unfold PhiR ringAt
  rw [sl_two]
  have hN : t.val < 8 := lt_of_lt_of_eq t.isLt (show cfg0.N = 8 from N_0)
  by_cases h0 : t.val = 0
  · rw [if_neg (by omega), if_pos (by omega)]
    iintro ⟨⟨Hg, Hq, HA, HB⟩, ⟨%W, -, HW⟩, ⟨%d0, H0⟩, ⟨%d1, H1⟩, ⟨%d2, H2⟩, ⟨%d3, H3⟩⟩
    ihave HA' := (slotFree_ready (F := F) c _ _ (Ring.bk 8 t.val)) $$ HA
    ihave HB' := (slotFree_ready (F := F) c _ _ (Ring.bk 8 (t.val + 1))) $$ HB
    iapply (runA c t _ _ _ _ _ _ _ _ ((hcond0 t).mpr h0) ((hcond1 t).mpr (by omega)) (iblk m c 0 t) (V m c main_call0_v0) W _)
    isplitl [H0]; · iexact H0
    isplitl [H1]; · iexists _; iexact H1
    isplitl [H2]; · iexists _; iexact H2
    isplitl [H3]; · iexists _; iexact H3
    isplitl [HA']; · iexact HA'
    isplitl [HB']; · iexact HB'
    isplitl [HW]; · iexact HW
    iintro ⟨H0, H1, H2, H3, HR, HF, ⟨%W', HW'⟩⟩
    isplitl [Hg Hq HR HF]
    · isplitl [Hg]; · iexact Hg
      isplitl [Hq]; · iexact Hq
      isplitl [HF]; · iexact HF
      iapply (slotReady_free (F := F) c _ _ (Ring.bk 8 t.val)); iexact HR
    isplitl [HW']
    · iexists W'; isplitr; · ipureintro; exact fun _ _ => Or.inl trivial
      iexact HW'
    isplitl [H0]; · iexact H0
    isplitl [H1]; · iexact H1
    isplitl [H2]; · iexact H2
    iexact H3
  · by_cases h1 : t.val < 7
    · rw [if_pos (by omega), if_pos (by omega)]
      iintro ⟨⟨Hg, Hq, HA, HB⟩, ⟨%W, -, HW⟩, ⟨%d0, H0⟩, ⟨%d1, H1⟩, ⟨%d2, H2⟩, ⟨%d3, H3⟩⟩
      ihave HB' := (slotFree_ready (F := F) c _ _ (Ring.bk 8 (t.val + 1))) $$ HB
      iapply (runB c t _ _ _ _ _ _ _ _ (fun h => h0 ((hcond0 t).mp h)) ((hcond1 t).mpr h1) (iblk m c 0 t) (V m c main_call0_v0) W _)
      isplitl [H0]; · iexact H0
      isplitl [H1]; · iexists _; iexact H1
      isplitl [H2]; · iexists _; iexact H2
      isplitl [H3]; · iexists _; iexact H3
      isplitl [HA]; · iexact HA
      isplitl [HB']; · iexact HB'
      isplitl [HW]; · iexact HW
      iintro ⟨H0, H1, H2, H3, HR, HF, ⟨%W', HW'⟩⟩
      isplitl [Hg Hq HR HF]
      · isplitl [Hg]; · iexact Hg
        isplitl [Hq]; · iexact Hq
        isplitl [HF]; · iexact HF
        iapply (slotReady_free (F := F) c _ _ (Ring.bk 8 t.val)); iexact HR
      isplitl [HW']
      · iexists W'; isplitr; · ipureintro; exact fun _ _ => Or.inl trivial
        iexact HW'
      isplitl [H0]; · iexact H0
      isplitl [H1]; · iexact H1
      isplitl [H2]; · iexact H2
      iexact H3
    · rw [if_pos (by omega), if_neg (by omega)]
      iintro ⟨⟨Hg, Hq, HA, HB⟩, ⟨%W, -, HW⟩, ⟨%d0, H0⟩, ⟨%d1, H1⟩, ⟨%d2, H2⟩, ⟨%d3, H3⟩⟩
      iapply (runC c t _ _ _ _ _ _ _ _ (fun h => h0 ((hcond0 t).mp h)) (fun h => h1 ((hcond1 t).mp h)) (iblk m c 0 t) (V m c main_call0_v0) W _)
      isplitl [H0]; · iexact H0
      isplitl [H1]; · iexists _; iexact H1
      isplitl [H2]; · iexists _; iexact H2
      isplitl [H3]; · iexists _; iexact H3
      isplitl [HA]; · iexact HA
      isplitl [HW]; · iexact HW
      iintro ⟨H0, H1, H2, H3, HR, ⟨%W', HW'⟩⟩
      isplitl [Hg Hq HR HB]
      · isplitl [Hg]; · iexact Hg
        isplitl [Hq]; · iexact Hq
        isplitl [HB]; · iexact HB
        iapply (slotReady_free (F := F) c _ _ (Ring.bk 8 t.val)); iexact HR
      isplitl [HW']
      · iexists W'; isplitr; · ipureintro; exact fun _ _ => Or.inl trivial
        iexact HW'
      isplitl [H0]; · iexact H0
      isplitl [H1]; · iexact H1
      isplitl [H2]; · iexact H2
      iexact H3

/-- The body called at point `t` is the kernel on that point's staging memrefs. -/
theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The launch's pieces are the invariant before the first point, -/
theorem phi_in (c : Dev nD) : Pipeline.ΦD osem0 spec0 H0 (V m) c ⊢ (dats m 0 c).Φ 0 := by
  rw [handed_eq, show (dats m 0 c).Φ 0 = PhiR m c 0 from rfl]
  unfold PhiR ringAt
  rw [if_neg (by omega), show Ring.sl 2 0 = 0 from rfl, show Ring.sl 2 (0 + 1) = 1 from rfl, slotFree_eq, slotFree_eq]
  iintro ⟨HS, Hg, ⟨Hc0, Hc1⟩, HX⟩
  ihave HS' := (scratch_split (F := F) c) $$ HS
  icases HS' with ⟨HS0, HS1⟩
  ihave HX' := (operand_split (F := F) c (V m c main_call0_v0)).1 $$ HX
  icases HX' with ⟨HXr, HX0, HX1⟩
  isplitl [Hg]; · iexact Hg
  isplitl [HXr]; · iexact HXr
  isplitl [Hc0 HS0 HX0]
  · isplitl [Hc0]; · iexact Hc0
    isplitl [HS0]; · iexact HS0
    iexact HX0
  · isplitl [Hc1]; · iexact Hc1
    isplitl [HS1]; · iexact HS1
    iexact HX1

/-- and the invariant after the last point gives them back. -/
theorem phi_out (c : Dev nD) : (dats m 0 c).Φ (Fin.last cfg0.N) ⊢ Pipeline.ΦD osem0 spec0 H0 (V m) c := by
  rw [handed_eq, show (dats m 0 c).Φ (Fin.last cfg0.N) = PhiR m c grid0.N from rfl]
  unfold PhiR ringAt
  rw [show grid0.N = 8 by rw [N_0], if_neg (by omega), show Ring.sl 2 8 = 0 from rfl, show Ring.sl 2 (8 + 1) = 1 from rfl, slotFree_eq, slotFree_eq]
  iintro ⟨Hg, HXr, ⟨Hc0, HS0, HX0⟩, ⟨Hc1, HS1, HX1⟩⟩
  isplitl [HS0 HS1]
  · iapply (scratch_join (F := F) c); isplitl [HS0]; · iexact HS0
    iexact HS1
  isplitl [Hg]; · iexact Hg
  isplitl [Hc0 Hc1]
  · isplitl [Hc0]; · iexact Hc0
    iexact Hc1
  iapply (operand_split (F := F) c (V m c main_call0_v0)).2
  isplitl [HXr]; · iexact HXr
  isplitl [HX0]; · iexact HX0
  iexact HX1

/-! ## The run -/

-- the launch theorem's implicit arguments are found by unifying its conclusion with this one, which unfolds definitions in types
set_option backward.isDefEq.respectTransparency.types false in
set_option maxHeartbeats 800000 in
/-- From any memory with every counter at zero: @main terminates; every array of the pipeline ends at what the proof data
    computes, every other buffer as the host operations after the region leave it, and every counter ends at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_but) (hfresh := sfx_fresh) (hkeep := sfx_keeps)
    (hmain := main_split m) (hA := dats_A m) (hin := phi_in m) (hout := phi_out m)

/-- The frame: the two arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2 main_arg0 (Pipeline.mem_restRefs_of main_arg0 (by decide) (by decide))).trans (arg0_end m (dats m) c),
        ((h.1 c).1 0).trans (((dats m 0 c).arrAt_in 0 rfl _).trans ((dats_A m c 0).trans (V_main_arg1 m c)))⟩, h.2⟩)
    (run_main_quiescent m ρ)

end Cert.KernelIdeal.Stream

end
-- ==== Proof.TopTwo.lean ====
/- The two greatest of finitely many extended reals, two ways: as the first two positions of the stable sort by "greater",
   and as the maximum with the least position holding it, then the same among the other positions. -/
module

public import Idealize.ShloMosaic.Lib.SortFacts
public import Idealize.ShloMosaic.PureOps
public import Idealize.ShloMosaic.PureOps.Reduce
public import Mathlib.Data.EReal.Basic
public import Mathlib.Data.Finset.Fold

@[expose] public section

noncomputable section

namespace Cert.TopTwo

open Idealize.ShloMosaic

/-- "Sorts before", ties by position: the greater value first, of equal ones the lower position. -/
def first {n : ℕ} (p : Fin n → EReal) (k k' : Fin n) : Bool := decide (p k' < p k ∨ (p k = p k' ∧ k < k'))

/-- A stable sort asks its comparator about a later element against an earlier one only. -/
theorem stableSort_congr_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- So the stable sort by "greater" is the sort by "greater, ties by position". -/
theorem sortedFrom_first {n : ℕ} (p : Fin n → EReal) (R : Fin n → Fin n → Bool) (hR : ∀ k k', R k k' = decide (p k' < p k)) :
    sortedFrom R = sortedFrom (first p) := by
  have e : sortPositions n R = sortPositions n (first p) := by
    refine stableSort_congr_later _ _ _ ?_
    refine (List.pairwise_lt_finRange n).imp fun {a b} hab => ?_
    rw [hR]; unfold first
    refine decide_eq_decide.mpr ⟨Or.inl, fun h => h.elim id fun h' => absurd h'.2 (not_lt.mpr hab.le)⟩
  funext k
  unfold sortedFrom
  rw [List.get_of_eq e]; rfl

section Sorted
variable {n : ℕ} (p : Fin n → EReal)

/-- A later position of the sort never sorts before an earlier one. -/
theorem first_sorted (i j : Fin n) (h : i < j) : first p (sortedFrom (first p) j) (sortedFrom (first p) i) = false := by
  refine sortedFrom_noInversion (first p) (first p) ?_ (fun _ _ h => h) ?_ i j h
  · intro a b hab
    simp only [first, decide_eq_true_eq, decide_eq_false_iff_not, not_or, not_and, not_lt] at hab ⊢
    rcases hab with h | ⟨h, h'⟩
    · exact ⟨h.le, fun e => absurd e h.ne⟩
    · exact ⟨h.ge, fun _ => h'.le⟩
  · intro a b c hab hbc
    simp only [first, decide_eq_false_iff_not, not_or, not_and, not_lt] at hab hbc ⊢
    refine ⟨hab.1.trans hbc.1, fun e => ?_⟩
    have e1 : p a = p b := le_antisymm hab.1 (by rw [e]; exact hbc.1)
    exact (hbc.2 (e1.symm.trans e)).trans (hab.2 e1)

/-- What is at the sort's first position: a greatest value, at the least position that holds it. -/
theorem at_zero (h0 : 0 < n) (k : Fin n) :
    p k ≤ p (sortedFrom (first p) ⟨0, h0⟩) ∧ (p k = p (sortedFrom (first p) ⟨0, h0⟩) → sortedFrom (first p) ⟨0, h0⟩ ≤ k) := by
  obtain ⟨j, rfl⟩ := sortedFrom_surjective (first p) k
  by_cases hj : j = ⟨0, h0⟩
  · subst hj; exact ⟨le_rfl, fun _ => le_rfl⟩
  · have h := first_sorted p ⟨0, h0⟩ j (Fin.lt_def.mpr (Nat.pos_of_ne_zero fun e => hj (Fin.ext e)))
    simp only [first, decide_eq_false_iff_not, not_or, not_and, not_lt] at h
    exact ⟨h.1, h.2⟩

/-- What is at its second: the same among the positions other than the first's. -/
theorem at_one (h1 : 1 < n) (k : Fin n) (hk : k ≠ sortedFrom (first p) ⟨0, Nat.zero_lt_of_lt h1⟩) :
    p k ≤ p (sortedFrom (first p) ⟨1, h1⟩) ∧ (p k = p (sortedFrom (first p) ⟨1, h1⟩) → sortedFrom (first p) ⟨1, h1⟩ ≤ k) := by
  obtain ⟨j, rfl⟩ := sortedFrom_surjective (first p) k
  have hj0 : j ≠ ⟨0, Nat.zero_lt_of_lt h1⟩ := fun e => hk (by rw [e])
  by_cases hj : j = ⟨1, h1⟩
  · subst hj; exact ⟨le_rfl, fun _ => le_rfl⟩
  · have h := first_sorted p ⟨1, h1⟩ j (Fin.lt_def.mpr (by
      have a : j.val ≠ 0 := fun e => hj0 (Fin.ext e)
      have b : j.val ≠ 1 := fun e => hj (Fin.ext e)
      show 1 < j.val; omega))
    simp only [first, decide_eq_false_iff_not, not_or, not_and, not_lt] at h
    exact ⟨h.1, h.2⟩

theorem one_ne_zero (h1 : 1 < n) : sortedFrom (first p) ⟨1, h1⟩ ≠ sortedFrom (first p) ⟨0, Nat.zero_lt_of_lt h1⟩ := fun e =>
  absurd (sortedFrom_injective (first p) e) (by simp [Fin.ext_iff])

end Sorted

/-! ## The folds -/

/-- The maximum of values of which the one at `a` is a greatest. -/
theorem fold_max {n : ℕ} (f : Fin n → EReal) (a : Fin n) (h : ∀ k, f k ≤ f a) : Finset.univ.fold max (⊥ : EReal) f = f a :=
  le_antisymm (Finset.fold_max_le (f a) |>.mpr ⟨bot_le, fun k _ => h k⟩)
    (Finset.le_fold_max (f a) |>.mpr (Or.inr ⟨a, Finset.mem_univ a, le_rfl⟩))

/-- The least, as a signed word, of words that are small naturals, of which the one at `a` is a least. -/
theorem fold_minsi {n : ℕ} (g : Fin n → BitVec 32) (v : Fin n → ℕ) (hg : ∀ k, g k = BitVec.ofNat 32 (v k)) (hv : ∀ k, v k < 2 ^ 31)
    (a : Fin n) (h : ∀ k, v a ≤ v k) : Finset.univ.fold IntOp.minsi (2147483647#32) g = g a := by
  have hi : ∀ k, (g k).toInt = v k := fun k => by
    rw [hg, BitVec.toInt_eq_toNat_of_lt, BitVec.toNat_ofNat, Nat.mod_eq_of_lt]
    · have := hv k; omega
    · rw [BitVec.toNat_ofNat, Nat.mod_eq_of_lt] <;> (have := hv k; omega)
  have hm : ∀ x y : BitVec 32, (IntOp.minsi x y).toInt = min x.toInt y.toInt := fun x y => by
    unfold IntOp.minsi
    by_cases hxy : x.slt y
    · rw [if_pos hxy]; rw [BitVec.slt_iff_toInt_lt] at hxy; omega
    · rw [if_neg hxy]; rw [BitVec.slt_iff_toInt_lt] at hxy; omega
  have hf : (Finset.univ.fold IntOp.minsi (2147483647#32) g).toInt = Finset.univ.fold min (2147483647#32 : BitVec 32).toInt fun k => (g k).toInt :=
    (Finset.fold_hom (m := fun x : BitVec 32 => x.toInt) (op' := min) fun x y => hm x y).symm
  refine BitVec.eq_of_toInt_eq (hf.trans ?_)
  refine le_antisymm (Finset.fold_min_le _ |>.mpr (Or.inr ⟨a, Finset.mem_univ a, le_rfl⟩))
    (Finset.le_fold_min _ |>.mpr ⟨?_, fun k _ => ?_⟩)
  · rw [hi]; have := hv a; have e : (2147483647#32 : BitVec 32).toInt = 2147483647 := by decide
    omega
  · rw [hi, hi]; have := h k; omega

/-- Among sixteen positions, the least satisfying a condition that `a` satisfies and no lower one does, as the kernel finds it: the
    least of the satisfying positions' numbers, 16 standing for the others. -/
theorem fold_least (c : Fin 16 → Prop) [DecidablePred c] (a : Fin 16) (ha : c a) (h : ∀ k, c k → a ≤ k) :
    Finset.univ.fold IntOp.minsi (2147483647#32) (fun k : Fin 16 => if c k then BitVec.ofNat 32 k.val else 16#32) = BitVec.ofNat 32 a.val := by
  refine (fold_minsi _ (fun k => if c k then k.val else 16) (fun k => ?_) (fun k => ?_) a fun k => ?_).trans (if_pos ha)
  · by_cases hk : c k
    · simp only [if_pos hk]
    · simp only [if_neg hk]
  · by_cases hk : c k
    · simp only [if_pos hk]; omega
    · simp only [if_neg hk]; omega
  · simp only [if_pos ha]
    by_cases hk : c k
    · simp only [if_pos hk]; exact h k hk
    · simp only [if_neg hk]; omega

/-- Numbers below sixteen are told apart by their words. -/
theorem word_inj (a b : Fin 16) : BitVec.ofNat 32 a.val = BitVec.ofNat 32 b.val ↔ a = b := by
  refine ⟨fun h => Fin.ext ?_, fun h => by rw [h]⟩
  have := congrArg BitVec.toNat h
  simp only [BitVec.toNat_ofNat] at this
  omega

/-- The `r`-th position of the sort by score, ties by number. -/
def rank (p : Fin 16 → EReal) (r : Fin 2) : Fin 16 := sortedFrom (first p) ⟨r.val, by omega⟩

theorem rank_zero (p : Fin 16 → EReal) (k : Fin 16) : p k ≤ p (rank p 0) ∧ (p k = p (rank p 0) → rank p 0 ≤ k) :=
  at_zero p (by decide) k

theorem rank_ne (p : Fin 16 → EReal) : rank p 1 ≠ rank p 0 := one_ne_zero p (by decide)

theorem rank_one (p : Fin 16 → EReal) (k : Fin 16) (h : k ≠ rank p 0) : p k ≤ p (rank p 1) ∧ (p k = p (rank p 1) → rank p 1 ≤ k) :=
  at_one p (by decide) k h

end Cert.TopTwo

end
-- ==== Proof.Gate.lean ====
/- What the gate computes for one row of activations, from its sixteen logits: the softmax over the experts, and the
   best two experts' scores over their sum. -/
module

public import proofs.«01_k».proof.Proof.TopTwo
public import Idealize.ShloMosaic.PureOps.Ideal

@[expose] public section

noncomputable section

namespace Cert.Gate

open Idealize.ShloMosaic Cert.TopTwo

/-- The word of minus infinity is the least extended real. -/
theorem minus_inf : Ideal.ofBits FTy.f32 4286578688#32 = (⊥ : EReal) := by
  simp [Ideal.ofBits, Ideal.ieee]

/-- The softmax of sixteen logits, each shifted by the greatest of them. -/
def soft (l : Fin 16 → EReal) (e : Fin 16) : EReal :=
  Ideal.div (Ideal.exp (l e - Finset.univ.fold max ⊥ l)) (∑ k, Ideal.exp (l k - Finset.univ.fold max ⊥ l))

/-- A score over the sum of the best two and the printed small constant. -/
def share (p : Fin 16 → EReal) (r : Fin 2) : EReal :=
  Ideal.div (p (rank p r)) (p (rank p 0) + p (rank p 1) + Ideal.ofBits FTy.f32 507307272#32)

end Cert.Gate

end
-- ==== Proof.IdealPay.lean ====
/- What a grid point computes, element by element, at the ideal values: the logits are dot products, the scores their
   softmax over the experts, and the two selection rounds find the first two experts of the sort by score. -/
module

public import proofs.«01_k».proof.Proof.Gen.KernelIdeal.Skeleton
public import proofs.«01_k».proof.Proof.IdealRing
public import proofs.«01_k».proof.Proof.Gate
public import Idealize.ShloMosaic.Lib.Pointwise

@[expose] public section

set_option maxRecDepth 16384

noncomputable section

namespace Cert.KernelIdeal.Stream

open Cert.KernelIdeal Cert.KernelIdeal.Gen Idealize.ShloMosaic Idealize.ShloMosaic.TcCoe Idealize.SL.Sem
open Cert.TopTwo Cert.Gate

/-- Row `n`'s logit for expert `e`: the dot product of the row and the expert's weights. -/
def logit (x : FVec Ideal S1x2048x2048 .f32) (w : FVec Ideal S16x2048 .f32) (n : Fin 2048) (e : Fin 16) : EReal :=
  ∑ k : Fin 2048, w (ix2 e k) * x (ix3 0 n k)

variable (x : FVec Ideal S1x2048x2048 .f32) (w : FVec Ideal S16x2048 .f32)

theorem pay3_at (e : Fin 16) (n : Fin 2048) : k0_pay3 (F := Ideal) x w (ix2 e n) = logit x w n e := by
  pointwise [k0_pay3, logit]

theorem pay4_at (e : Fin 16) (n : Fin 2048) : k0_pay4 (F := Ideal) x w (ix2 e n) = soft (logit x w n) e := by
  pointwise [k0_pay4, pay3_at, soft, minus_inf]

/-- The best score. -/
theorem pay5_at (e : Fin 1) (n : Fin 2048) :
    k0_pay5 (F := Ideal) x w (ix2 e n) = soft (logit x w n) (rank (soft (logit x w n)) 0) := by
  pointwise [k0_pay5, pay4_at, minus_inf]
  exact fold_max _ _ fun k => (rank_zero _ k).1

/-- The expert that has it, the first of them. -/
theorem pay6_at (e : Fin 1) (n : Fin 2048) :
    k0_pay6 (F := Ideal) x w (ix2 e n) = BitVec.ofNat 32 (rank (soft (logit x w n)) 0).val := by
  pointwise [k0_pay6, pay4_at, pay5_at]
  generalize soft (logit x w n) = p
  exact fold_least (fun k => p k = p (rank p 0)) _ rfl fun k => (rank_zero p k).2

/-- The scores with the best expert's taken out. -/
theorem pay7_at (e : Fin 16) (n : Fin 2048) :
    k0_pay7 (F := Ideal) x w (ix2 e n) = if e = rank (soft (logit x w n)) 0 then ⊥ else soft (logit x w n) e := by
  pointwise [k0_pay7, pay4_at, pay6_at, minus_inf]
  by_cases h : e = rank (soft (logit x w n)) 0
  · rw [if_pos h, ← h]; simp [IntOp.cmpi, Scalar.select]
  · rw [if_neg h]
    have h' := mt (word_inj _ _).mp h
    have hb : (BitVec.ofNat 32 e.val == BitVec.ofNat 32 (rank (soft (logit x w n)) 0).val) = false := beq_eq_false_iff_ne.mpr h'
    simp [IntOp.cmpi, Scalar.select, hb]

/-- The second best score. -/
theorem pay8_at (e : Fin 1) (n : Fin 2048) :
    k0_pay8 (F := Ideal) x w (ix2 e n) = soft (logit x w n) (rank (soft (logit x w n)) 1) := by
  pointwise [k0_pay8, pay7_at, minus_inf]
  generalize soft (logit x w n) = p
  refine (fold_max _ (rank p 1) fun k => ?_).trans (if_neg (rank_ne p))
  show (if k = rank p 0 then ⊥ else p k) ≤ if rank p 1 = rank p 0 then ⊥ else p (rank p 1)
  rw [if_neg (rank_ne p)]
  by_cases h : k = rank p 0
  · rw [if_pos h]; exact bot_le
  · rw [if_neg h]; exact (rank_one p k h).1

/-- The two chosen experts. -/
theorem outIdx_at (r : Fin 2) (n : Fin 2048) :
    outIdx (F := Ideal) x w (ix2 r n) = BitVec.ofNat 32 (rank (soft (logit x w n)) r).val := by
  pointwise [outIdx, k0_pay1, k0_pay9, k0_pay10, pay6_at, pay7_at, pay8_at]
  generalize soft (logit x w n) = p
  rcases (by omega : r = 0 ∨ r = 1) with rfl | rfl
  · rfl
  · refine (dif_neg (by decide)).trans (Eq.trans ?_ (fold_least (fun k => k ≠ rank p 0 ∧ p k = p (rank p 1)) (rank p 1)
      ⟨rank_ne p, rfl⟩ fun k h => (rank_one p k h.1).2 h.2))
    refine congrArg (fun f => Finset.univ.fold IntOp.minsi (2147483647#32) f) (funext fun k => ?_)
    by_cases h : k = rank p 0
    · subst h; simp [IntOp.cmpi, IntOp.andi, Scalar.select]
    · have h' := mt (word_inj _ _).mp h
      have hb : (BitVec.ofNat 32 k.val != BitVec.ofNat 32 (rank p 0).val) = true := bne_iff_ne.mpr h'
      by_cases hp : p k = p (rank p 1) <;> simp [IntOp.cmpi, IntOp.andi, Scalar.select, hb, h, hp]

/-- Their weights. -/
theorem outWgt_at (r : Fin 2) (n : Fin 2048) : outWgt (F := Ideal) x w (ix2 r n) = share (soft (logit x w n)) r := by
  pointwise [outWgt, k0_pay2, pay5_at, pay8_at, share]
  rcases (by omega : r = 0 ∨ r = 1) with rfl | rfl
  · rfl
  · rfl

theorem outLogits_at (e : Fin 16) (n : Fin 2048) : outLogits (F := Ideal) x w (ix2 e n) = logit x w n e := pay3_at x w e n

end Cert.KernelIdeal.Stream

end
-- ==== Proof.RefRead.lean ====
/- The reference's results, element by element, at the ideal values: from a row's logits the two best experts of the
   softmax and their weights. -/
module

public import proofs.«01_k».proof.Proof.Gen.ReferenceIdeal.Read
public import proofs.«01_k».proof.Proof.Gate
public import Idealize.ShloMosaic.Lib.Pointwise

@[expose] public section

set_option maxRecDepth 16384

noncomputable section

namespace Cert.ReferenceIdeal.Rows

open Cert.ReferenceIdeal Cert.ReferenceIdeal.Gen Cert.ReferenceIdeal.Read Idealize.ShloMosaic Idealize.ShloMosaic.TcCoe Idealize.SL.Sem
open Cert.TopTwo Cert.Gate

variable (X : (⟨S4x4096x2048, .f32⟩ : BufTy).Contents (Elt Ideal)) (W : (⟨S16x2048, .f32⟩ : BufTy).Contents (Elt Ideal))

/-- Row `n`'s logit for expert `e`. -/
def logit (n : Fin 16384) (e : Fin 16) : EReal := val_main_v2 (F := Ideal) X W (ix2 n e)

theorem v2_at (n : Fin 16384) (e : Fin 16) :
    logit X W n e = ∑ k : Fin 2048, val_main_v0 (F := Ideal) X (ix2 n k) * (show EReal from W (ix2 e k)) := by
  unfold logit
  pointwise [val_main_v2, val_main_v1]

theorem v13_at (n : Fin 16384) (e : Fin 16) : val_main_v13 (F := Ideal) X W (ix2 n e) = soft (logit X W n) e := by
  pointwise [val_main_v13, val_main_v12, val_main_v11, val_main_v10, val_main_v9, val_main_v8, val_main_v7, val_main_v6, val_main_v5, val_main_v4, val_main_v3,
    val_main_cst, val_main_cst_0, val_main_cst_1, soft, minus_inf]
  simp only [max_bot_left]
  rfl

/-- Row `n` with its second coordinate replaced. -/
theorem along_at (n : Fin 16384) (a k : Fin 16) : ((ix2 n a : S16384x16.Idx).along 1 k) = ix2 n k := by
  funext b
  match b with
  | ⟨0, _⟩ => rfl
  | ⟨1, _⟩ => rfl

/-- The two greatest of a row of scores and their positions, equal scores by position. -/
theorem topK_at (P : FVec Ideal S16384x16 .f32) (p : Fin 16 → EReal) (n : Fin 16384) (hp : ∀ e, P (ix2 n e) = p e) (r : Fin 2) :
    (Host.topK S16384x2 1 (FloatOps.cmpfTotal .gt) P sliceFits_S16384x16_S16384x2).1 (ix2 n r) = p (rank p r)
    ∧ (Host.topK S16384x2 1 (FloatOps.cmpfTotal .gt) P sliceFits_S16384x16_S16384x2).2 (ix2 n r) = BitVec.ofNat 32 (rank p r).val := by
  have hr16 : r.val < 16 := by omega
  let q : Fin 16 := ⟨r.val, hr16⟩
  have hs : ∀ a : Fin 16, sortedFrom (fun k k' : Fin 16 =>
      FloatOps.cmpfTotal (F := Ideal) (φ := .f32) CmpDirection.gt (P ((ix2 n a : S16384x16.Idx).along 1 k)) (P ((ix2 n a : S16384x16.Idx).along 1 k')) == 1#1)
      = sortedFrom (first p) := fun a => by
    refine sortedFrom_first p _ fun k k' => ?_
    rw [along_at, along_at, hp, hp]
    show (BitVec.ofBool (decide (p k' < p k)) == 1#1) = _
    by_cases h : p k' < p k <;> simp [h]
  have he : (Shape.Idx.along (ix2 n q : S16384x16.Idx) 1 (rank p r)) = ix2 n (rank p r) := along_at _ _ _
  have hi : ∀ v : S16384x16.Idx → EReal, extractStridedSlice S16384x2 (fun _ => 0) v sliceFits_S16384x16_S16384x2 (ix2 n r) = v (ix2 n q) := fun v => by
    pointwise; rfl
  have hi' : ∀ v : S16384x16.Idx → BitVec 32, extractStridedSlice S16384x2 (fun _ => 0) v sliceFits_S16384x16_S16384x2 (ix2 n r) = v (ix2 n q) := fun v => by
    pointwise; rfl
  unfold Host.topK
  dsimp only
  constructor
  · refine (hi _).trans ?_
    exact (congrArg (fun f : Fin 16 → Fin 16 => P ((ix2 n q : S16384x16.Idx).along 1 (f q)))
      (hs q)).trans ((congrArg P he).trans (hp _))
  · refine (hi' _).trans ?_
    have hg : ∀ (g : S16384x16.Idx → BitVec 32), (∀ k, g (ix2 n k) = BitVec.ofNat 32 k.val) →
        g ((ix2 n q : S16384x16.Idx).along 1 (sortedFrom (fun k k' : Fin 16 =>
          FloatOps.cmpfTotal (F := Ideal) (φ := .f32) CmpDirection.gt (P ((ix2 n q : S16384x16.Idx).along 1 k))
            (P ((ix2 n q : S16384x16.Idx).along 1 k')) == 1#1) q)) = BitVec.ofNat 32 (rank p r).val := fun g h =>
      (congrArg (fun f : Fin 16 → Fin 16 => g ((ix2 n q : S16384x16.Idx).along 1 (f q)))
        (hs q)).trans ((congrArg g he).trans (h _))
    exact hg (fun i => if hd : 1 < S16384x16.rank then iotaInDim S16384x16 32 ⟨1, hd⟩ i else 0#32) fun k => rfl

/-- The chosen experts. -/
theorem indices_at (n : Fin 16384) (r : Fin 2) :
    val_main_indices (F := Ideal) X W (ix2 n r) = BitVec.ofNat 32 (rank (soft (logit X W n)) r).val :=
  (topK_at _ _ n (v13_at X W n) r).2

theorem values_at (n : Fin 16384) (r : Fin 2) :
    val_main_values (F := Ideal) X W (ix2 n r) = soft (logit X W n) (rank (soft (logit X W n)) r) :=
  (topK_at _ _ n (v13_at X W n) r).1

/-- Their weights. -/
theorem v19_at (n : Fin 16384) (r : Fin 2) : val_main_v19 (F := Ideal) X W (ix2 n r) = share (soft (logit X W n)) r := by
  pointwise [val_main_v19, val_main_v18, val_main_v17, val_main_v16, val_main_v15, val_main_v14, val_main_cst_2, val_main_cst_3, values_at, share]
  rw [Fin.sum_univ_two]

end Cert.ReferenceIdeal.Rows

end
-- ==== Proof.IdealValue.lean ====
/- The kernel's three result arrays are the reference's: each grid point writes 2048 columns of the transposed results,
   the eight points' columns make up the whole, and the host's transposes turn them over. -/
module

public import proofs.«01_k».proof.Proof.IdealFrame
public import proofs.«01_k».proof.Proof.IdealPay
public import proofs.«01_k».proof.Proof.RefRead
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Stream

open Cert.KernelIdeal Cert.KernelIdeal.Gen Idealize.ShloMosaic Idealize.ShloMosaic.TcCoe Idealize.SL.Sem
open Idealize.ShloMosaic.Pipeline (Dat)
open Cert.TopTwo Cert.Gate

variable (m : (ℓ : Loc nD τ sig) → Buf (Elt Ideal) ℓ) (c : Dev nD)

/-- The activations and the weights as launched. -/
def argX : FVec Ideal S4x4096x2048 .f32 := m ((c.tc : Thread nD τ).loc main_arg0)
def argW : FVec Ideal S16x2048 .f32 := m ((c.tc : Thread nD τ).loc main_arg1)

/-- The windows' block indices at every grid point. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- The rows as the region finds them: the activations reshaped. -/
theorem rows_entry : V m c main_call0_v0 = Cert.ReferenceIdeal.Read.val_main_v0 (F := Ideal) (argX m c) := by
  entry_read; rfl

/-- The weights' block at every point: the whole of the weights. -/
theorem weights_block (t : Fin cfg0.N) (e : Fin 16) (k : Fin 2048) : iblk m c 0 t (ix2 e k) = argW m c (ix2 e k) := by
  unfold iblk argW
  rw [← V_main_arg1 m c]
  refine congrArg (V m c main_arg1) ?_
  blk_ext
  all_goals simp [(idx t).1]

/-- The row of the activations that is row `n` of point `t`'s block. -/
def row (t : Fin cfg0.N) (n : Fin 2048) : Fin 16384 := ⟨2048 * t.val + n.val, by have : t.val < 8 := t.isLt; omega⟩

/-- A point's logits are the reference's. -/
theorem logit_eq (t : Fin cfg0.N) (n : Fin 2048) :
    logit (rowsV c (V m c main_call0_v0) (Ring.bk 8 t.val)) (iblk m c 0 t) n = Cert.ReferenceIdeal.Rows.logit (argX m c) (argW m c) (row t n) := by
  funext e
  rw [Cert.ReferenceIdeal.Rows.v2_at]
  unfold logit
  refine Finset.sum_congr rfl fun k _ => ?_
  rw [mul_comm]
  refine congrArg₂ (· * ·) ?_ (weights_block m c t e k)
  rw [rows_entry]
  unfold rowsV
  refine congrArg (Cert.ReferenceIdeal.Read.val_main_v0 (F := Ideal) (argX m c)) ?_
  have : (Ring.bk 8 t.val).val = t.val := Ring.bk_val t.isLt
  funext a
  match a with
  | ⟨0, _⟩ => exact Fin.ext (by show 2048 * (Ring.bk 8 t.val).val + n.val = 2048 * t.val + n.val; rw [this])
  | ⟨1, _⟩ => rfl

/-- The transposed results as whole arrays. -/
def allLogits : FVec Ideal S16x16384 .f32 := fun i => Cert.ReferenceIdeal.Rows.logit (argX m c) (argW m c) (i 1) (i 0)
def allIdx : IVec S2x16384 32 := fun i => BitVec.ofNat 32 (rank (soft (Cert.ReferenceIdeal.Rows.logit (argX m c) (argW m c) (i 1))) (i 0)).val
def allWgt : FVec Ideal S2x16384 .f32 := fun i => share (soft (Cert.ReferenceIdeal.Rows.logit (argX m c) (argW m c) (i 1))) (i 0)

/-- Where an element of point `t`'s block sits in the array. -/
theorem emb_logits (t : Fin cfg0.N) (e : Fin 16) (n : Fin 2048) : (win0_1.blk t).view.emb (ix2 e n) = (ix2 e (row t n) : S16x16384.Idx) := by
  unfold row
  blk_ext
  all_goals simp [(idx t).2.1, mul_comm]
theorem emb_idx (t : Fin cfg0.N) (r : Fin 2) (n : Fin 2048) : (win0_2.blk t).view.emb (ix2 r n) = (ix2 r (row t n) : S2x16384.Idx) := by
  unfold row
  blk_ext
  all_goals simp [(idx t).2.2.1, mul_comm]
theorem emb_wgt (t : Fin cfg0.N) (r : Fin 2) (n : Fin 2048) : (win0_3.blk t).view.emb (ix2 r n) = (ix2 r (row t n) : S2x16384.Idx) := by
  unfold row
  blk_ext
  all_goals simp [(idx t).2.2.2, mul_comm]

/-- The transposed logits after the run. -/
theorem final_logits : (dats m 0 c).arrAt 1 (cfgs 0).N = allLogits m c := by
  refine (dats m 0 c).arrAt_eq_of_covers 1 _ (by decide +kernel) fun t _ y => ?_
  blk_simp
  rw [after_logits]
  obtain ⟨e, n, rfl⟩ : ∃ (e : Fin 16) (n : Fin 2048), y = ix2 e n := ⟨y 0, y 1, eq_ix2 y⟩
  refine (outLogits_at _ _ e n).trans ?_
  rw [logit_eq]
  exact (congrArg (allLogits m c) (emb_logits t e n)).symm

/-- The transposed experts after the run. -/
theorem final_idx : (dats m 0 c).arrAt 2 (cfgs 0).N = allIdx m c := by
  refine (dats m 0 c).arrAt_eq_of_covers 2 _ (by decide +kernel) fun t _ y => ?_
  blk_simp
  rw [after_idx]
  obtain ⟨r, n, rfl⟩ : ∃ (r : Fin 2) (n : Fin 2048), y = ix2 r n := ⟨y 0, y 1, eq_ix2 y⟩
  refine (outIdx_at _ _ r n).trans ?_
  rw [logit_eq]
  exact (congrArg (allIdx m c) (emb_idx t r n)).symm

/-- The transposed weights after the run. -/
theorem final_wgt : (dats m 0 c).arrAt 3 (cfgs 0).N = allWgt m c := by
  refine (dats m 0 c).arrAt_eq_of_covers 3 _ (by decide +kernel) fun t _ y => ?_
  blk_simp
  rw [after_wgt]
  obtain ⟨r, n, rfl⟩ : ∃ (r : Fin 2) (n : Fin 2048), y = ix2 r n := ⟨y 0, y 1, eq_ix2 y⟩
  refine (outWgt_at _ _ r n).trans ?_
  rw [logit_eq]
  exact (congrArg (allWgt m c) (emb_wgt t r n)).symm

/-! ## The host's transposes -/

theorem arr_inj : Function.Injective (Pipeline.arrRef spec0) := by decide

/-- What the three transposes leave in the results, from any contents before them. -/
theorem tail_idx (A : Valuation τ sig (Elt Ideal)) : StableHlo.after ([hostOps1] : List (List (HloOp τ sig (Elt Ideal)))).flatten A (Proc.devRef .tc main_v0_0)
    = transpose S16384x2 [1, 0] (A (Proc.devRef .tc main_call0_v1_1)) transposes_S2x16384_S16384x2_1_0 := by
  simp only [List.flatten_cons, List.flatten_nil, List.append_nil]
  after_results
  rfl
theorem tail_wgt (A : Valuation τ sig (Elt Ideal)) : StableHlo.after ([hostOps1] : List (List (HloOp τ sig (Elt Ideal)))).flatten A (Proc.devRef .tc main_v0_1)
    = transpose S16384x2 [1, 0] (A (Proc.devRef .tc main_call0_v1_2)) transposes_S2x16384_S16384x2_1_0 := by
  simp only [List.flatten_cons, List.flatten_nil, List.append_nil]
  after_results
  rfl
theorem tail_logits (A : Valuation τ sig (Elt Ideal)) : StableHlo.after ([hostOps1] : List (List (HloOp τ sig (Elt Ideal)))).flatten A (Proc.devRef .tc main_v0_2)
    = transpose S16384x16 [1, 0] (A (Proc.devRef .tc main_call0_v1_0)) transposes_S16x16384_S16384x16_1_0 := by
  simp only [List.flatten_cons, List.flatten_nil, List.append_nil]
  after_results
  rfl

/-- A transpose at an index. -/
theorem turn_idx (v : IVec S2x16384 32) (n : Fin 16384) (r : Fin 2) : transpose S16384x2 [1, 0] v transposes_S2x16384_S16384x2_1_0 (ix2 n r) = v (ix2 r n) := by
  pointwise
theorem turn_wgt (v : FVec Ideal S2x16384 .f32) (n : Fin 16384) (r : Fin 2) : transpose S16384x2 [1, 0] v transposes_S2x16384_S16384x2_1_0 (ix2 n r) = v (ix2 r n) := by
  pointwise
theorem turn_logits (v : FVec Ideal S16x16384 .f32) (n : Fin 16384) (e : Fin 16) : transpose S16384x16 [1, 0] v transposes_S16x16384_S16384x16_1_0 (ix2 n e) = v (ix2 e n) := by
  pointwise

/-- The first result: the chosen experts. -/
theorem result_idx : Pipeline.afterTail₀ cfgs (dats m) 0 (V0 m) [hostOps1] c main_v0_0 = Cert.ReferenceIdeal.Read.val_main_indices (F := Ideal) (argX m c) (argW m c) := by
  refine (tail_idx _).trans ?_
  rw [show Pipeline.withArrays (cfgs 0).spec c (V0 m c) (fun w => (dats m 0 c).arrAt w (cfgs 0).N) (Proc.devRef .tc main_call0_v1_1) = allIdx m c from
    (Pipeline.withArrays_arr spec0 arr_inj c (V0 m c) (fun w => (dats m 0 c).arrAt w (cfgs 0).N) 2).trans (final_idx m c)]
  funext i
  obtain ⟨n, r, rfl⟩ : ∃ (n : Fin 16384) (r : Fin 2), i = ix2 n r := ⟨i 0, i 1, eq_ix2 i⟩
  exact (turn_idx _ n r).trans (Cert.ReferenceIdeal.Rows.indices_at (argX m c) (argW m c) n r).symm

/-- The second result: their weights. -/
theorem result_wgt : Pipeline.afterTail₀ cfgs (dats m) 0 (V0 m) [hostOps1] c main_v0_1 = Cert.ReferenceIdeal.Read.val_main_v19 (F := Ideal) (argX m c) (argW m c) := by
  refine (tail_wgt _).trans ?_
  rw [show Pipeline.withArrays (cfgs 0).spec c (V0 m c) (fun w => (dats m 0 c).arrAt w (cfgs 0).N) (Proc.devRef .tc main_call0_v1_2) = allWgt m c from
    (Pipeline.withArrays_arr spec0 arr_inj c (V0 m c) (fun w => (dats m 0 c).arrAt w (cfgs 0).N) 3).trans (final_wgt m c)]
  funext i
  obtain ⟨n, r, rfl⟩ : ∃ (n : Fin 16384) (r : Fin 2), i = ix2 n r := ⟨i 0, i 1, eq_ix2 i⟩
  exact (turn_wgt _ n r).trans (Cert.ReferenceIdeal.Rows.v19_at (argX m c) (argW m c) n r).symm

/-- The third result: the logits. -/
theorem result_logits : Pipeline.afterTail₀ cfgs (dats m) 0 (V0 m) [hostOps1] c main_v0_2 = Cert.ReferenceIdeal.Read.val_main_v2 (F := Ideal) (argX m c) (argW m c) := by
  refine (tail_logits _).trans ?_
  rw [show Pipeline.withArrays (cfgs 0).spec c (V0 m c) (fun w => (dats m 0 c).arrAt w (cfgs 0).N) (Proc.devRef .tc main_call0_v1_0) = allLogits m c from
    (Pipeline.withArrays_arr spec0 arr_inj c (V0 m c) (fun w => (dats m 0 c).arrAt w (cfgs 0).N) 1).trans (final_logits m c)]
  funext i
  obtain ⟨n, e, rfl⟩ : ∃ (n : Fin 16384) (e : Fin 16), i = ix2 n e := ⟨i 0, i 1, eq_ix2 i⟩
  exact turn_logits _ n e

/-- Every run ends with the three results at the reference's terms and the arguments unchanged. -/
theorem run (ρ : Dev nD → PrngReg) : θ_run defs (onTc (τ := τ) (main (F := Ideal))) ⟨m, fun _ => 0, ρ⟩ (fun r => ∀ c : Dev nD,
    r.2.mem ((c.tc : Thread nD τ).loc main_v0_0) = Cert.ReferenceIdeal.Read.val_main_indices (F := Ideal) (argX m c) (argW m c)
    ∧ r.2.mem ((c.tc : Thread nD τ).loc main_v0_1) = Cert.ReferenceIdeal.Read.val_main_v19 (F := Ideal) (argX m c) (argW m c)
    ∧ r.2.mem ((c.tc : Thread nD τ).loc main_v0_2) = Cert.ReferenceIdeal.Read.val_main_v2 (F := Ideal) (argX m c) (argW m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c =>
    ⟨((h.1 c).2 main_v0_0 (Pipeline.mem_restRefs_of main_v0_0 (by decide) (by decide))).trans (result_idx m c),
      ((h.1 c).2 main_v0_1 (Pipeline.mem_restRefs_of main_v0_1 (by decide) (by decide))).trans (result_wgt m c),
      ((h.1 c).2 main_v0_2 (Pipeline.mem_restRefs_of main_v0_2 (by decide) (by decide))).trans (result_logits m c),
      ((h.1 c).2 main_arg0 (Pipeline.mem_restRefs_of main_arg0 (by decide) (by decide))).trans (arg0_end m (dats m) c),
      ((h.1 c).1 0).trans (((dats m 0 c).arrAt_in 0 rfl _).trans ((dats_A m c 0).trans (V_main_arg1 m c)))⟩)
    (run_main_quiescent m ρ)

end Cert.KernelIdeal.Stream

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.BitsFrame
public import proofs.«01_k».proof.Proof.IdealFrame
public import proofs.«01_k».proof.Proof.IdealValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel at the words of its floats runs, leaves its arguments as they were and its semaphores at zero. -/
theorem frame_kernel : Cert.quiescent_Kernel := fun m g _ => Cert.Kernel.Stream.frame m g

/-- So does the kernel at the ideal values. -/
theorem frame_ideal : Cert.quiescent_KernelIdeal := fun m g _ => Cert.KernelIdeal.Stream.frame m g

/-- So does the reference. -/
theorem frame_reference : Cert.quiescent_ReferenceIdeal := by
  intro m g _
  exact (θ_run Cert.ReferenceIdeal.defs _ _).mono (fun r h => ⟨fun c => (h c).2.2.2, sem_eq_zero_of_no_sems rfl r.2⟩)
    (Cert.ReferenceIdeal.Value.run m g)

/-- From equal arguments the kernel and the reference end with the same experts, the same weights and the same logits. -/
theorem algebraic : Cert.algebraic_KernelIdeal_ReferenceIdeal := by
  intro m g m' g' _ hagree
  refine ⟨_, _, _, Cert.KernelIdeal.Stream.run m g, ?_⟩
  refine (θ_run Cert.ReferenceIdeal.defs _ _).mono (fun r h c => ?_) (Cert.ReferenceIdeal.Value.run m' g')
  have e0 := (hagree c).1
  have e1 := (hagree c).2
  unfold Cert.KernelIdeal.Stream.argX Cert.KernelIdeal.Stream.argW
  rw [← e0, ← e1]
  exact ⟨(h c).1.trans (Cert.ReferenceIdeal.Read.val_main_indices_eq _ _), (h c).2.1.trans (Cert.ReferenceIdeal.Read.val_main_v19_eq m' c),
    (h c).2.2.1.trans (Cert.ReferenceIdeal.Read.val_main_v2_eq _ _), (h c).2.2.2⟩

theorem claim : Cert.Claim := ⟨Cert.Kernel.Gen.facts, Cert.KernelIdeal.Gen.facts, Cert.ReferenceIdeal.Gen.facts,
  frame_kernel, frame_ideal, frame_reference, trivial, algebraic⟩

end Cert.Proof

end
